-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v10_1)) (v3 : (c : Dev Cert.KernelIdeal.nD) → Buf (Elt Ideal) ((c.tc : Thread Cert.KernelIdeal.nD Cert.KernelIdeal.τ).loc Cert.KernelIdeal.main_v10_2)) (v4 : (c : Dev Cert.KernelIdeal.nD) → Buf (Elt Ideal) ((c.tc : Thread Cert.KernelIdeal.nD Cert.KernelIdeal.τ).loc Cert.KernelIdeal.main_v10_3)) (v5 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_v10_2) = v3 c
          ∧ r.2.mem ((c.tc : Thread Cert.KernelIdeal.nD Cert.KernelIdeal.τ).loc Cert.KernelIdeal.main_v10_3) = v4 c
          ∧ r.2.mem ((c.tc : Thread Cert.KernelIdeal.nD Cert.KernelIdeal.τ).loc Cert.KernelIdeal.main_v10_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x6144 : Shape := ⟨3, ![1, 4096, 6144]⟩
abbrev S1x4096x15360 : Shape := ⟨3, ![1, 4096, 15360]⟩
abbrev S15360x6144 : Shape := ⟨2, ![15360, 6144]⟩
abbrev S6144x512 : Shape := ⟨2, ![6144, 512]⟩
abbrev S_ : Shape := ⟨0, ![]⟩
abbrev S15360x512 : Shape := ⟨2, ![15360, 512]⟩
abbrev S15360x4 : Shape := ⟨2, ![15360, 4]⟩
abbrev S4096x6144 : Shape := ⟨2, ![4096, 6144]⟩
abbrev S4096x15360 : Shape := ⟨2, ![4096, 15360]⟩
abbrev S1 : Shape := ⟨1, ![1]⟩
abbrev S2 : Shape := ⟨1, ![2]⟩
abbrev S4096x1024 : Shape := ⟨2, ![4096, 1024]⟩
abbrev S4096x512 : Shape := ⟨2, ![4096, 512]⟩
abbrev S512x512 : Shape := ⟨2, ![512, 512]⟩
abbrev S1024x512 : Shape := ⟨2, ![1024, 512]⟩
abbrev S1024x4 : Shape := ⟨2, ![1024, 4]⟩
abbrev S1024x4096 : Shape := ⟨2, ![1024, 4096]⟩
abbrev S256x1024 : Shape := ⟨2, ![256, 1024]⟩
abbrev S1024x256 : Shape := ⟨2, ![1024, 256]⟩
abbrev S1024x128 : Shape := ⟨2, ![1024, 128]⟩
abbrev S1024x1 : Shape := ⟨2, ![1024, 1]⟩
abbrev S1024 : Shape := ⟨1, ![1024]⟩

abbrev nBuf : Space → Nat
  | .hbm => 30
  | .vmem => 36
  | .smem => 1
  | _ => 0

abbrev bufTy : (tb : Table) → Fin (tcTables nBuf tb) → BufTy
  | .hbm, ⟨0, _⟩ => ⟨S1x4096x6144, .bf16⟩
  | .hbm, ⟨1, _⟩ => ⟨S1x4096x15360, .bf16⟩
  | .hbm, ⟨2, _⟩ => ⟨S15360x6144, .bf16⟩
  | .hbm, ⟨3, _⟩ => ⟨S6144x512, .bf16⟩
  | .hbm, ⟨4, _⟩ => ⟨S_, .i32⟩
  | .hbm, ⟨5, _⟩ => ⟨S15360x512, .i8⟩
  | .hbm, ⟨6, _⟩ => ⟨S15360x4, .f32⟩
  | .hbm, ⟨7, _⟩ => ⟨S15360x512, .i8⟩
  | .hbm, ⟨8, _⟩ => ⟨S15360x4, .f32⟩
  | .hbm, ⟨9, _⟩ => ⟨S4096x6144, .bf16⟩
  | .hbm, ⟨10, _⟩ => ⟨S4096x15360, .bf16⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S2, .f32⟩
  | .hbm, ⟨23, _⟩ => ⟨S15360x512, .bf16⟩
  | .hbm, ⟨24, _⟩ => ⟨S15360x512, .i8⟩
  | .hbm, ⟨25, _⟩ => ⟨S15360x4, .f32⟩
  | .hbm, ⟨26, _⟩ => ⟨S15360x512, .i8⟩
  | .hbm, ⟨27, _⟩ => ⟨S15360x4, .f32⟩
  | .hbm, ⟨28, _⟩ => ⟨S15360x6144, .bf16⟩
  | .hbm, ⟨29, _⟩ => ⟨S15360x6144, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S512x512, .bf16⟩
  | .local _ .vmem, ⟨5, _⟩ => ⟨S512x512, .bf16⟩
  | .local _ .vmem, ⟨6, _⟩ => ⟨S1024x512, .i8⟩
  | .local _ .vmem, ⟨7, _⟩ => ⟨S1024x512, .i8⟩
  | .local _ .vmem, ⟨8, _⟩ => ⟨S1024x4, .f32⟩
  | .local _ .vmem, ⟨9, _⟩ => ⟨S1024x4, .f32⟩
  | .local _ .vmem, ⟨10, _⟩ => ⟨S1024x512, .i8⟩
  | .local _ .vmem, ⟨11, _⟩ => ⟨S1024x512, .i8⟩
  | .local _ .vmem, ⟨12, _⟩ => ⟨S1024x4, .f32⟩
  | .local _ .vmem, ⟨13, _⟩ => ⟨S1024x4, .f32⟩
  | .local _ .vmem, ⟨14, _⟩ => ⟨S1024x512, .bf16⟩
  | .local _ .vmem, ⟨15, _⟩ => ⟨S1024x512, .bf16⟩
  | .local _ .vmem, ⟨16, _⟩ => ⟨S1024x512, .i8⟩
  | .local _ .vmem, ⟨17, _⟩ => ⟨S1024x512, .i8⟩
  | .local _ .vmem, ⟨18, _⟩ => ⟨S1024x4, .f32⟩
  | .local _ .vmem, ⟨19, _⟩ => ⟨S1024x4, .f32⟩
  | .local _ .vmem, ⟨20, _⟩ => ⟨S1024x512, .i8⟩
  | .local _ .vmem, ⟨21, _⟩ => ⟨S1024x512, .i8⟩
  | .local _ .vmem, ⟨22, _⟩ => ⟨S1024x4, .f32⟩
  | .local _ .vmem, ⟨23, _⟩ => ⟨S1024x4, .f32⟩
  | .local _ .vmem, ⟨24, _⟩ => ⟨S1024x4096, .bf16⟩
  | .local _ .vmem, ⟨25, _⟩ => ⟨S1024x512, .f32⟩
  | .local _ .vmem, ⟨26, _⟩ => ⟨S1024x512, .bf16⟩
  | .local _ .vmem, ⟨27, _⟩ => ⟨S1024x512, .bf16⟩
  | .local _ .vmem, ⟨28, _⟩ => ⟨S512x512, .bf16⟩
  | .local _ .vmem, ⟨29, _⟩ => ⟨S512x512, .bf16⟩
  | .local _ .vmem, ⟨30, _⟩ => ⟨S1024x512, .bf16⟩
  | .local _ .vmem, ⟨31, _⟩ => ⟨S1024x512, .bf16⟩
  | .local _ .vmem, ⟨32, _⟩ => ⟨S1024x512, .bf16⟩
  | .local _ .vmem, ⟨33, _⟩ => ⟨S1024x512, .bf16⟩
  | .local _ .vmem, ⟨34, _⟩ => ⟨S1024x512, .f32⟩
  | .local _ .vmem, ⟨35, _⟩ => ⟨S1024x512, .f32⟩
  | .local _ .smem, ⟨0, _⟩ => ⟨S2, .f32⟩
  | _, _ => ⟨S1x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v11_0 : Ref sig .tc := ⟨.hbm, 28, rfl⟩
abbrev main_v11_1 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem4_1 : DmaSem sig := 34

abbrev nD : Nat := 1
abbrev τ : Topo := Topo.v7x

variable {F : FTy → Type} [FloatOps F]

abbrev grid0 : Pipeline.Grid := ⟨2, ![15, 12], ![false, false]⟩

def k0_cond2 (i : grid0.Coords) : BitVec 1 :=
  let arg1 : BitVec 32 := BitVec.ofNat 32 (i 1).val
  let c11_i32 : BitVec 32 := 11#32
  let v15 : BitVec 1 := Scalar.cmpi .eq arg1 c11_i32
  let v16 : BitVec 32 := Scalar.extui v15
  let c0_i32_11 : BitVec 32 := 0#32
  let v17 : BitVec 1 := Scalar.cmpi .ne v16 c0_i32_11
  v17

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x512 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev grid1 : Pipeline.Grid := ⟨2, ![15, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S1x4096x6144 : Shape := ⟨3, ![1, 4096, 6144]⟩
abbrev S1x4096x15360 : Shape := ⟨3, ![1, 4096, 15360]⟩
abbrev S15360x6144 : Shape := ⟨2, ![15360, 6144]⟩
abbrev S6144x512 : Shape := ⟨2, ![6144, 512]⟩
abbrev S_ : Shape := ⟨0, ![]⟩
abbrev S15360x512 : Shape := ⟨2, ![15360, 512]⟩
abbrev S15360x4 : Shape := ⟨2, ![15360, 4]⟩
abbrev S1x1x1 : Shape := ⟨3, ![1, 1, 1]⟩
abbrev S15360x4x128 : Shape := ⟨3, ![15360, 4, 128]⟩
abbrev S15360x4x1 : Shape := ⟨3, ![15360, 4, 1]⟩

abbrev nBuf : Space → Nat
  | .hbm => 45
  | .vmem => 12
  | .smem => 0
  | _ => 0

abbrev bufTy : (tb : Table) → Fin (tcTables nBuf tb) → BufTy
  | .hbm, ⟨0, _⟩ => ⟨S1x4096x6144, .bf16⟩
  | .hbm, ⟨1, _⟩ => ⟨S1x4096x15360, .bf16⟩
  | .hbm, ⟨2, _⟩ => ⟨S15360x6144, .bf16⟩
  | .hbm, ⟨3, _⟩ => ⟨S6144x512, .bf16⟩
  | .hbm, ⟨4, _⟩ => ⟨S_, .i32⟩
  | .hbm, ⟨5, _⟩ => ⟨S15360x512, .i8⟩
  | .hbm, ⟨6, _⟩ => ⟨S15360x4, .f32⟩
  | .hbm, ⟨7, _⟩ => ⟨S15360x512, .i8⟩
  | .hbm, ⟨8, _⟩ => ⟨S15360x4, .f32⟩
  | .hbm, ⟨9, _⟩ => ⟨S15360x6144, .f32⟩
  | .hbm, ⟨10, _⟩ => ⟨S15360x6144, .bf16⟩
  | .hbm, ⟨11, _⟩ => ⟨S15360x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x1x1, .f32⟩
  | .hbm, ⟨22, _⟩ => ⟨S1x1x1, .f32⟩
  | .hbm, ⟨23, _⟩ => ⟨S15360x4x128, .f32⟩
  | .hbm, ⟨24, _⟩ => ⟨S15360x4x128, .i8⟩
  | .hbm, ⟨25, _⟩ => ⟨S15360x4x1, .f32⟩
  | .hbm, ⟨26, _⟩ => ⟨S15360x4x128, .i8⟩
  | .hbm, ⟨27, _⟩ => ⟨S15360x4x1, .f32⟩
  | .hbm, ⟨28, _⟩ => ⟨S15360x4x128, .bf16⟩
  | .hbm, ⟨29, _⟩ => ⟨S15360x4x128, .i8⟩
  | .hbm, ⟨30, _⟩ => ⟨S15360x4x1, .f32⟩
  | .hbm, ⟨31, _⟩ => ⟨S15360x4x128, .i8⟩
  | .hbm, ⟨32, _⟩ => ⟨S15360x4x1, .f32⟩
  | .hbm, ⟨33, _⟩ => ⟨S15360x512, .bf16⟩
  | .hbm, ⟨34, _⟩ => ⟨S15360x6144, .f32⟩
  | .hbm, ⟨35, _⟩ => ⟨S_, .f32⟩
  | .hbm, ⟨36, _⟩ => ⟨S15360x6144, .f32⟩
  | .hbm, ⟨37, _⟩ => ⟨S15360x6144, .f32⟩
  | .hbm, ⟨38, _⟩ => ⟨S15360x6144, .f32⟩
  | .hbm, ⟨39, _⟩ => ⟨S15360x6144, .f32⟩
  | .hbm, ⟨40, _⟩ => ⟨S15360x6144, .bf16⟩
  | .hbm, ⟨41, _⟩ => ⟨S15360x512, .i8⟩
  | .hbm, ⟨42, _⟩ => ⟨S15360x4, .f32⟩
  | .hbm, ⟨43, _⟩ => ⟨S15360x512, .i8⟩
  | .hbm, ⟨44, _⟩ => ⟨S15360x4, .f32⟩
  | .local _ .vmem, ⟨0, _⟩ => ⟨S1x1x1, .f32⟩
  | .local _ .vmem, ⟨1, _⟩ => ⟨S1x1x1, .f32⟩
  | .local _ .vmem, ⟨2, _⟩ => ⟨S15360x4x128, .f32⟩
  | .local _ .vmem, ⟨3, _⟩ => ⟨S15360x4x128, .i8⟩
  | .local _ .vmem, ⟨4, _⟩ => ⟨S15360x4x1, .f32⟩
  | .local _ .vmem, ⟨5, _⟩ => ⟨S15360x4x128, .i8⟩
  | .local _ .vmem, ⟨6, _⟩ => ⟨S15360x4x1, .f32⟩
  | .local _ .vmem, ⟨7, _⟩ => ⟨S15360x4x128, .bf16⟩
  | .local _ .vmem, ⟨8, _⟩ => ⟨S15360x4x128, .i8⟩
  | .local _ .vmem, ⟨9, _⟩ => ⟨S15360x4x1, .f32⟩
  | .local _ .vmem, ⟨10, _⟩ => ⟨S15360x4x128, .i8⟩
  | .local _ .vmem, ⟨11, _⟩ => ⟨S15360x4x1, .f32⟩
  | _, _ => ⟨S1x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15360x4x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x4x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360x4x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15360x4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S15360x4x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S15360x4x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S15360x4x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S15360x4x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S15360x4x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.GradBase.lean ====
/- The first pallas_call (`cc0_galore_grad_adam`): the blocks its windows hold, its branch conditions at the grid's
   points, where its outputs are idle, and the rectangles its body reads and writes. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first `scf.if`'s condition: the second grid coordinate is 0. -/
abbrev condFirst (i : grid0.Coords) : Prop := (Scalar.cmpi .ne (Scalar.extui (Scalar.cmpi .eq (BitVec.ofNat 32 (i 1).val) 0#32)) 0#32) = 1#1
/-- It holds at the points 0, 12, 24, … -/
theorem condFirst_iff : ∀ t : Fin cfg0.N, condFirst (grid0.coords t) ↔ t.val % 12 = 0 :=
  (fun t => by
    have ht : t.val < 180 := Nat.lt_of_lt_of_eq t.isLt N_0
    have e0 : (grid0.coords t 0).val = t.val / 12 % 15 := Pipeline.Grid.coords_val t 0 (by decide) rfl
    have e1 : (grid0.coords t 1).val = t.val / 1 % 12 := Pipeline.Grid.coords_val t 1 (by decide) rfl
    simp only [condFirst, e0, e1]
    word_cmp
   : ∀ t : Fin grid0.N, condFirst (grid0.coords t) ↔ t.val % 12 = 0)

/-- The second `scf.if`'s condition: the second grid coordinate is 11. -/
abbrev condLast (i : grid0.Coords) : Prop := k0_cond2 i = 1#1
/-- It holds at the points 11, 23, 35, … -/
theorem condLast_iff : ∀ t : Fin cfg0.N, condLast (grid0.coords t) ↔ t.val % 12 = 11 :=
  (fun t => by
    have ht : t.val < 180 := Nat.lt_of_lt_of_eq t.isLt N_0
    have e0 : (grid0.coords t 0).val = t.val / 12 % 15 := Pipeline.Grid.coords_val t 0 (by decide) rfl
    have e1 : (grid0.coords t 1).val = t.val / 1 % 12 := Pipeline.Grid.coords_val t 1 (by decide) rfl
    simp only [condLast, k0_cond2, e0, e1]
    word_cmp
   : ∀ t : Fin grid0.N, condLast (grid0.coords t) ↔ t.val % 12 = 11)

/-! ## Where the outputs are idle: everywhere but at a row's last point, and never written back there -/

theorem idle0_8 : ∀ t : Fin cfg0.N, ¬condLast (grid0.coords t) → cfg0.idle 8 (grid0.coords t) = true := by decide +kernel
theorem noFlush0_8 : ∀ t : Fin cfg0.N, ¬condLast (grid0.coords t) → (cfg0.win 8).flush t = false := by decide +kernel
theorem live0_8 : ∀ t : Fin cfg0.N, condLast (grid0.coords t) → cfg0.idle 8 (grid0.coords t) = false := by decide +kernel
theorem idle0_9 : ∀ t : Fin cfg0.N, ¬condLast (grid0.coords t) → cfg0.idle 9 (grid0.coords t) = true := by decide +kernel
theorem noFlush0_9 : ∀ t : Fin cfg0.N, ¬condLast (grid0.coords t) → (cfg0.win 9).flush t = false := by decide +kernel
theorem live0_9 : ∀ t : Fin cfg0.N, condLast (grid0.coords t) → cfg0.idle 9 (grid0.coords t) = false := by decide +kernel
theorem idle0_10 : ∀ t : Fin cfg0.N, ¬condLast (grid0.coords t) → cfg0.idle 10 (grid0.coords t) = true := by decide +kernel
theorem noFlush0_10 : ∀ t : Fin cfg0.N, ¬condLast (grid0.coords t) → (cfg0.win 10).flush t = false := by decide +kernel
theorem live0_10 : ∀ t : Fin cfg0.N, condLast (grid0.coords t) → cfg0.idle 10 (grid0.coords t) = false := by decide +kernel
theorem idle0_11 : ∀ t : Fin cfg0.N, ¬condLast (grid0.coords t) → cfg0.idle 11 (grid0.coords t) = true := by decide +kernel
theorem noFlush0_11 : ∀ t : Fin cfg0.N, ¬condLast (grid0.coords t) → (cfg0.win 11).flush t = false := by decide +kernel
theorem live0_11 : ∀ t : Fin cfg0.N, condLast (grid0.coords t) → cfg0.idle 11 (grid0.coords t) = false := by decide +kernel
theorem idle0_12 : ∀ t : Fin cfg0.N, ¬condLast (grid0.coords t) → cfg0.idle 12 (grid0.coords t) = true := by decide +kernel
theorem noFlush0_12 : ∀ t : Fin cfg0.N, ¬condLast (grid0.coords t) → (cfg0.win 12).flush t = false := by decide +kernel
theorem live0_12 : ∀ t : Fin cfg0.N, condLast (grid0.coords t) → cfg0.idle 12 (grid0.coords t) = false := by decide +kernel

/-! ## The staging memrefs and the scratch -/

abbrev ms0_0 (t : Fin cfg0.N) : Memref sig .tc .smem S2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x4 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x4 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x4 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x512 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x4 .f32 := win0_12.stage (cfg0.slots t 12)
abbrev hs0_12 (t : Fin cfg0.N) : (ms0_12 t).IsWhole := hstage0_12 ((cfg0.slots t 12).cast nbuf0_12)
/-- The scratch holding the transposed gradient block of the current row. -/
abbrev scDyt : Memref sig .tc .vmem S1024x4096 .bf16 := Memref.whole cc0_scratch0
/-- The scratch holding the row's running sum. -/
abbrev scAcc : Memref sig .tc .vmem S1024x512 .f32 := Memref.whole cc0_scratch1

/-! ## The rectangles -/

abbrev rAcc : Rect S1024x512 := Rect.unit (s := S1024x512) ![0, 0] S1024x512.size inb_S1024x512_S1024x512_0_0
abbrev rDyt : Rect S1024x4096 := Rect.unit (s := S1024x4096) ![0, 0] S1024x4096.size inb_S1024x4096_S1024x4096_0_0
abbrev rX : Rect S4096x512 := Rect.unit (s := S4096x512) ![0, 0] S4096x512.size inb_S4096x512_S4096x512_0_0
abbrev rP : Rect S512x512 := Rect.unit (s := S512x512) ![0, 0] S512x512.size inb_S512x512_S512x512_0_0

theorem zero2 : (![0, 0] : Fin 2 → ℕ) = fun _ => 0 := by decide

/-! ## The windows' blocks -/

section Blocks

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not, for any proof data whose
    array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Gen

end
-- ==== Proof.GradMid.lean ====
/- The body of the first pallas_call at a row's middle points: one accumulation step. -/
module

public import proofs.«01_k».proof.Proof.GradBase

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running sum after one step: the old sum plus `(dyᵀ·x)·p` of the blocks. -/
def stepAcc (dyt : Vec F S1024x4096 .bf16) (x2 : Vec F S4096x512 .bf16) (acc : Vec F S1024x512 .f32) (x3 : Vec F S512x512 .bf16) : Vec F S1024x512 .f32 :=
  k0_pay2 dyt x2 acc x3

/-- Reading the four whole buffers and storing the whole sum is the step. -/
theorem stepAcc_ld (dyt : Vec F S1024x4096 .bf16) (x2 : Vec F S4096x512 .bf16) (acc : Vec F S1024x512 .f32) (x3 : Vec F S512x512 .bf16) :
    k0_pay2 (View.ld dyt rDyt) (View.ld x2 rX) (View.ld acc rAcc) (View.ld x3 rP) = stepAcc dyt x2 acc x3 := by
  rw [View.ld_unit_zero zero2 _ dyt, View.ld_unit_zero zero2 _ x2, View.ld_unit_zero zero2 _ acc, View.ld_unit_zero zero2 _ x3]; rfl

/-- One whole-buffer store covers the sum's buffer. -/
theorem cover_acc (p0 : Vec F S1024x512 .f32) (y : S1024x512.Idx) :
    ∃ pc ∈ ([⟨rAcc, p0⟩] : List (View.Piece (Elt F) S1024x512 .f32)), y ∈ pc.1.set :=
  View.cover_of_tiled [⟨rAcc, p0⟩] S1024x512.size (by rfl) y

set_option maxHeartbeats 1000000 in
/-- The body at a middle point. -/
theorem body_mid (c : Dev nD) (E : Set ℕ) (i : grid0.Coords) (arg2 : Memref sig .tc .smem S2 .f32) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S1024x512 .i8) (harg6 : arg6.IsWhole) (arg7 : Memref sig .tc .vmem S1024x4 .f32) (harg7 : arg7.IsWhole) (arg8 : Memref sig .tc .vmem S1024x512 .i8) (harg8 : arg8.IsWhole) (arg9 : Memref sig .tc .vmem S1024x4 .f32) (harg9 : arg9.IsWhole) (arg10 : Memref sig .tc .vmem S1024x512 .bf16) (harg10 : arg10.IsWhole) (arg11 : Memref sig .tc .vmem S1024x512 .i8) (harg11 : arg11.IsWhole) (arg12 : Memref sig .tc .vmem S1024x4 .f32) (harg12 : arg12.IsWhole) (arg13 : Memref sig .tc .vmem S1024x512 .i8) (harg13 : arg13.IsWhole) (arg14 : Memref sig .tc .vmem S1024x4 .f32) (harg14 : arg14.IsWhole) (arg15 : Memref sig .tc .vmem S1024x4096 .bf16) (harg15 : arg15.IsWhole) (arg16 : Memref sig .tc .vmem S1024x512 .f32) (harg16 : arg16.IsWhole) (hc0 : ¬condFirst i) (hc1 : ¬condLast i)
    (x2 : Vec F S4096x512 .bf16) (x3 : Vec F S512x512 .bf16) (dyt : Vec F S1024x4096 .bf16) (acc : Vec F S1024x512 .f32) (K : PUnit → sProp 𝕄) :
    iprop(owns (c : Thread nD τ) arg4 fullShare x2 ∗ owns (c : Thread nD τ) arg5 fullShare x3 ∗ owns (c : Thread nD τ) arg15 fullShare dyt ∗ owns (c : Thread nD τ) arg16 fullShare acc
        ∗ (iprop(owns (c : Thread nD τ) arg4 fullShare x2 ∗ owns (c : Thread nD τ) arg5 fullShare x3 ∗ owns (c : Thread nD τ) arg15 fullShare dyt ∗ owns (c : Thread nD τ) arg16 fullShare (stepAcc dyt x2 acc x3)) -∗ K ⟨⟩))
      ⊢ wp frame (wpE (defs₀ (F := F)) Variants.none c none) E (cc0_galore_grad_adam i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_galore_grad_adam_eq_skeleton]; unfold cc0_galore_grad_adam_skel
  unfold owns
  iintro ⟨⟨%f2, %hf2, H2⟩, ⟨%f3, %hf3, H3⟩, ⟨%fs0, %hfs0, HS0⟩, ⟨%fs1, %hfs1, HS1⟩, Hk⟩
  subst hf2 hf3 hfs0 hfs1
  sl_exec (disch := first | sl_exact hc0 | sl_exact hc1)
  sl_step
  iapply Hk
  isplitl [H2]
  · iexists _; isplitr; · ipureintro; rfl
    iexact H2
  isplitl [H3]
  · iexists _; isplitr; · ipureintro; rfl
    iexact H3
  isplitl [HS0]
  · iexists _; isplitr; · ipureintro; rfl
    iexact HS0
  iexists _; isplitr
  swap; · iexact HS1
  ipureintro
  exact ((View.read_writes_eq_canon _ _ _ (cover_acc _)).trans (View.canon_unit_zero zero2 _ _)).trans (stepAcc_ld _ _ _ _)

end Cert.Kernel.Gen

end
-- ==== Proof.GradFirst.lean ====
/- The body of the first pallas_call at a row's first point: the gradient block is transposed piece by piece into its
   scratch, the sum is zeroed, then one accumulation step. -/
module

public import proofs.«01_k».proof.Proof.GradMid

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The transposed gradient block -/

abbrev rDy0 : Rect S4096x1024 := Rect.unit (s := S4096x1024) ![0, 0] S256x1024.size inb_S4096x1024_S256x1024_0_0
abbrev rT0 : Rect S1024x4096 := Rect.unit (s := S1024x4096) ![0, 0] S1024x256.size inb_S1024x4096_S1024x256_0_0
abbrev rDy1 : Rect S4096x1024 := Rect.unit (s := S4096x1024) ![256, 0] S256x1024.size inb_S4096x1024_S256x1024_256_0
abbrev rT1 : Rect S1024x4096 := Rect.unit (s := S1024x4096) ![0, 256] S1024x256.size inb_S1024x4096_S1024x256_0_256
abbrev rDy2 : Rect S4096x1024 := Rect.unit (s := S4096x1024) ![512, 0] S256x1024.size inb_S4096x1024_S256x1024_512_0
abbrev rT2 : Rect S1024x4096 := Rect.unit (s := S1024x4096) ![0, 512] S1024x256.size inb_S1024x4096_S1024x256_0_512
abbrev rDy3 : Rect S4096x1024 := Rect.unit (s := S4096x1024) ![768, 0] S256x1024.size inb_S4096x1024_S256x1024_768_0
abbrev rT3 : Rect S1024x4096 := Rect.unit (s := S1024x4096) ![0, 768] S1024x256.size inb_S1024x4096_S1024x256_0_768
abbrev rDy4 : Rect S4096x1024 := Rect.unit (s := S4096x1024) ![1024, 0] S256x1024.size inb_S4096x1024_S256x1024_1024_0
abbrev rT4 : Rect S1024x4096 := Rect.unit (s := S1024x4096) ![0, 1024] S1024x256.size inb_S1024x4096_S1024x256_0_1024
abbrev rDy5 : Rect S4096x1024 := Rect.unit (s := S4096x1024) ![1280, 0] S256x1024.size inb_S4096x1024_S256x1024_1280_0
abbrev rT5 : Rect S1024x4096 := Rect.unit (s := S1024x4096) ![0, 1280] S1024x256.size inb_S1024x4096_S1024x256_0_1280
abbrev rDy6 : Rect S4096x1024 := Rect.unit (s := S4096x1024) ![1536, 0] S256x1024.size inb_S4096x1024_S256x1024_1536_0
abbrev rT6 : Rect S1024x4096 := Rect.unit (s := S1024x4096) ![0, 1536] S1024x256.size inb_S1024x4096_S1024x256_0_1536
abbrev rDy7 : Rect S4096x1024 := Rect.unit (s := S4096x1024) ![1792, 0] S256x1024.size inb_S4096x1024_S256x1024_1792_0
abbrev rT7 : Rect S1024x4096 := Rect.unit (s := S1024x4096) ![0, 1792] S1024x256.size inb_S1024x4096_S1024x256_0_1792
abbrev rDy8 : Rect S4096x1024 := Rect.unit (s := S4096x1024) ![2048, 0] S256x1024.size inb_S4096x1024_S256x1024_2048_0
abbrev rT8 : Rect S1024x4096 := Rect.unit (s := S1024x4096) ![0, 2048] S1024x256.size inb_S1024x4096_S1024x256_0_2048
abbrev rDy9 : Rect S4096x1024 := Rect.unit (s := S4096x1024) ![2304, 0] S256x1024.size inb_S4096x1024_S256x1024_2304_0
abbrev rT9 : Rect S1024x4096 := Rect.unit (s := S1024x4096) ![0, 2304] S1024x256.size inb_S1024x4096_S1024x256_0_2304
abbrev rDy10 : Rect S4096x1024 := Rect.unit (s := S4096x1024) ![2560, 0] S256x1024.size inb_S4096x1024_S256x1024_2560_0
abbrev rT10 : Rect S1024x4096 := Rect.unit (s := S1024x4096) ![0, 2560] S1024x256.size inb_S1024x4096_S1024x256_0_2560
abbrev rDy11 : Rect S4096x1024 := Rect.unit (s := S4096x1024) ![2816, 0] S256x1024.size inb_S4096x1024_S256x1024_2816_0
abbrev rT11 : Rect S1024x4096 := Rect.unit (s := S1024x4096) ![0, 2816] S1024x256.size inb_S1024x4096_S1024x256_0_2816
abbrev rDy12 : Rect S4096x1024 := Rect.unit (s := S4096x1024) ![3072, 0] S256x1024.size inb_S4096x1024_S256x1024_3072_0
abbrev rT12 : Rect S1024x4096 := Rect.unit (s := S1024x4096) ![0, 3072] S1024x256.size inb_S1024x4096_S1024x256_0_3072
abbrev rDy13 : Rect S4096x1024 := Rect.unit (s := S4096x1024) ![3328, 0] S256x1024.size inb_S4096x1024_S256x1024_3328_0
abbrev rT13 : Rect S1024x4096 := Rect.unit (s := S1024x4096) ![0, 3328] S1024x256.size inb_S1024x4096_S1024x256_0_3328
abbrev rDy14 : Rect S4096x1024 := Rect.unit (s := S4096x1024) ![3584, 0] S256x1024.size inb_S4096x1024_S256x1024_3584_0
abbrev rT14 : Rect S1024x4096 := Rect.unit (s := S1024x4096) ![0, 3584] S1024x256.size inb_S1024x4096_S1024x256_0_3584
abbrev rDy15 : Rect S4096x1024 := Rect.unit (s := S4096x1024) ![3840, 0] S256x1024.size inb_S4096x1024_S256x1024_3840_0
abbrev rT15 : Rect S1024x4096 := Rect.unit (s := S1024x4096) ![0, 3840] S1024x256.size inb_S1024x4096_S1024x256_0_3840

/-- What the sixteen stores leave in the scratch: the block's slices of 256 rows, transposed, side by side (last store first). -/
def dytOf (x1 : Vec F S4096x1024 .bf16) : Vec F S1024x4096 .bf16 :=
  View.canon [⟨rT15, k0_pay5 (View.ld x1 rDy15)⟩, ⟨rT14, k0_pay5 (View.ld x1 rDy14)⟩, ⟨rT13, k0_pay5 (View.ld x1 rDy13)⟩, ⟨rT12, k0_pay5 (View.ld x1 rDy12)⟩, ⟨rT11, k0_pay5 (View.ld x1 rDy11)⟩, ⟨rT10, k0_pay5 (View.ld x1 rDy10)⟩, ⟨rT9, k0_pay5 (View.ld x1 rDy9)⟩, ⟨rT8, k0_pay5 (View.ld x1 rDy8)⟩, ⟨rT7, k0_pay5 (View.ld x1 rDy7)⟩, ⟨rT6, k0_pay5 (View.ld x1 rDy6)⟩, ⟨rT5, k0_pay5 (View.ld x1 rDy5)⟩, ⟨rT4, k0_pay5 (View.ld x1 rDy4)⟩, ⟨rT3, k0_pay5 (View.ld x1 rDy3)⟩, ⟨rT2, k0_pay5 (View.ld x1 rDy2)⟩, ⟨rT1, k0_pay5 (View.ld x1 rDy1)⟩, ⟨rT0, k0_pay5 (View.ld x1 rDy0)⟩]

/-- The sixteen stores cover the scratch. -/
theorem cover_dyt (p0 p1 p2 p3 p4 p5 p6 p7 p8 p9 p10 p11 p12 p13 p14 p15 : Vec F S1024x256 .bf16) (y : S1024x4096.Idx) :
    ∃ pc ∈ ([⟨rT15, p15⟩, ⟨rT14, p14⟩, ⟨rT13, p13⟩, ⟨rT12, p12⟩, ⟨rT11, p11⟩, ⟨rT10, p10⟩, ⟨rT9, p9⟩, ⟨rT8, p8⟩, ⟨rT7, p7⟩, ⟨rT6, p6⟩, ⟨rT5, p5⟩, ⟨rT4, p4⟩, ⟨rT3, p3⟩, ⟨rT2, p2⟩, ⟨rT1, p1⟩, ⟨rT0, p0⟩] : List (View.Piece (Elt F) S1024x4096 .bf16)), y ∈ pc.1.set :=
  View.cover_of_tiledL [⟨rT15, p15⟩, ⟨rT14, p14⟩, ⟨rT13, p13⟩, ⟨rT12, p12⟩, ⟨rT11, p11⟩, ⟨rT10, p10⟩, ⟨rT9, p9⟩, ⟨rT8, p8⟩, ⟨rT7, p7⟩, ⟨rT6, p6⟩, ⟨rT5, p5⟩, ⟨rT4, p4⟩, ⟨rT3, p3⟩, ⟨rT2, p2⟩, ⟨rT1, p1⟩, ⟨rT0, p0⟩] S1024x256.size (by sl_kernel_rfl) y

/-- The zeroed sum. -/
def zeroAcc : Vec F S1024x512 .f32 := k0_pay1 (F := F) k0_pay22

/-- The zero store followed by the step's store cover the sum's buffer. -/
theorem cover_acc2 (p0 p1 : Vec F S1024x512 .f32) (y : S1024x512.Idx) :
    ∃ pc ∈ ([⟨rAcc, p0⟩, ⟨rAcc, p1⟩] : List (View.Piece (Elt F) S1024x512 .f32)), y ∈ pc.1.set :=
  View.cover_of_tiledL [⟨rAcc, p0⟩, ⟨rAcc, p1⟩] S1024x512.size (by sl_kernel_rfl) y

set_option maxHeartbeats 4000000 in
/-- The body at a row's first point. -/
theorem body_first (c : Dev nD) (E : Set ℕ) (i : grid0.Coords) (arg2 : Memref sig .tc .smem S2 .f32) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S1024x512 .i8) (harg6 : arg6.IsWhole) (arg7 : Memref sig .tc .vmem S1024x4 .f32) (harg7 : arg7.IsWhole) (arg8 : Memref sig .tc .vmem S1024x512 .i8) (harg8 : arg8.IsWhole) (arg9 : Memref sig .tc .vmem S1024x4 .f32) (harg9 : arg9.IsWhole) (arg10 : Memref sig .tc .vmem S1024x512 .bf16) (harg10 : arg10.IsWhole) (arg11 : Memref sig .tc .vmem S1024x512 .i8) (harg11 : arg11.IsWhole) (arg12 : Memref sig .tc .vmem S1024x4 .f32) (harg12 : arg12.IsWhole) (arg13 : Memref sig .tc .vmem S1024x512 .i8) (harg13 : arg13.IsWhole) (arg14 : Memref sig .tc .vmem S1024x4 .f32) (harg14 : arg14.IsWhole) (arg15 : Memref sig .tc .vmem S1024x4096 .bf16) (harg15 : arg15.IsWhole) (arg16 : Memref sig .tc .vmem S1024x512 .f32) (harg16 : arg16.IsWhole) (hc0 : condFirst i) (hc1 : ¬condLast i)
    (x1 : Vec F S4096x1024 .bf16) (x2 : Vec F S4096x512 .bf16) (x3 : Vec F S512x512 .bf16) (K : PUnit → sProp 𝕄) :
    iprop(owns (c : Thread nD τ) arg3 fullShare x1 ∗ owns (c : Thread nD τ) arg4 fullShare x2 ∗ owns (c : Thread nD τ) arg5 fullShare x3 ∗ (∃ d, owns (c : Thread nD τ) arg15 fullShare d) ∗ (∃ d, owns (c : Thread nD τ) arg16 fullShare d)
        ∗ (iprop(owns (c : Thread nD τ) arg3 fullShare x1 ∗ owns (c : Thread nD τ) arg4 fullShare x2 ∗ owns (c : Thread nD τ) arg5 fullShare x3 ∗ owns (c : Thread nD τ) arg15 fullShare (dytOf x1) ∗ owns (c : Thread nD τ) arg16 fullShare (stepAcc (dytOf x1) x2 zeroAcc x3)) -∗ K ⟨⟩))
      ⊢ wp frame (wpE (defs₀ (F := F)) Variants.none c none) E (cc0_galore_grad_adam i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_galore_grad_adam_eq_skeleton]; unfold cc0_galore_grad_adam_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%d0, %fs0, -, HS0⟩, ⟨%d1, %fs1, -, HS1⟩, Hk⟩
  subst hf1 hf2 hf3
  sl_exec (disch := first | sl_exact hc0 | sl_exact hc1)
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [HS0]
  · iexists _; isplitr
    swap; · iexact HS0
    ipureintro
    exact View.read_writes_eq_canon _ _ _ (cover_dyt _ _ _ _ _ _ _ _ _ _ _ _ _ _ _ _)
  iexists _; isplitr
  swap; · iexact HS1
  ipureintro
  have e3 : body_first.sl.v3 c arg3 arg15 f1 = View.ld (dytOf (arg3.view.read (Elt F) f1)) rDyt := View.readCov_eq_canon' _ _ _
  have e7 : body_first.sl.v7 c arg16 = View.ld (zeroAcc (F := F)) rAcc :=
    (View.readCov_unit_zero _ zero2 _ _).trans (View.ld_unit_zero zero2 inb_S1024x512_S1024x512_0_0 (zeroAcc (F := F))).symm
  rw [e3, e7]
  exact ((View.read_writes_eq_canon _ _ _ (cover_acc2 _ _)).trans (View.canon_cons_unit_zero zero2 _ _ _)).trans (stepAcc_ld _ _ _ _)

end Cert.Kernel.Gen

end
-- ==== Proof.GradLast.lean ====
/- The body of the first pallas_call at a row's last point: the last accumulation step, then the optimizer step and the
   quantiser on each of the four blocks of 128 columns. -/
module

public import proofs.«01_k».proof.Proof.GradFirst

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles of column block `k`, and the two bias corrections -/

abbrev rQ0 : Rect S1024x512 := Rect.unit (s := S1024x512) ![0, 0] S1024x128.size inb_S1024x512_S1024x128_0_0
abbrev rS0 : Rect S1024x4 := Rect.unit (s := S1024x4) ![0, 0] S1024x1.size inb_S1024x4_S1024x1_0_0
abbrev rQ1 : Rect S1024x512 := Rect.unit (s := S1024x512) ![0, 128] S1024x128.size inb_S1024x512_S1024x128_0_128
abbrev rS1 : Rect S1024x4 := Rect.unit (s := S1024x4) ![0, 1] S1024x1.size inb_S1024x4_S1024x1_0_1
abbrev rQ2 : Rect S1024x512 := Rect.unit (s := S1024x512) ![0, 256] S1024x128.size inb_S1024x512_S1024x128_0_256
abbrev rS2 : Rect S1024x4 := Rect.unit (s := S1024x4) ![0, 2] S1024x1.size inb_S1024x4_S1024x1_0_2
abbrev rQ3 : Rect S1024x512 := Rect.unit (s := S1024x512) ![0, 384] S1024x128.size inb_S1024x512_S1024x128_0_384
abbrev rS3 : Rect S1024x4 := Rect.unit (s := S1024x4) ![0, 3] S1024x1.size inb_S1024x4_S1024x1_0_3
/-- Word 0 of the bias corrections. -/
abbrev bcAt0 (x0 : Vec F S2 .f32) : Elt F .f32 :=
  View.ld x0 (Rect.unit (s := S2) ![0] S1.size inb_S2_S1_0) (Shape.Idx.first (numel1_S1.symm ▸ Nat.one_pos))
/-- Word 1 of the bias corrections. -/
abbrev bcAt1 (x0 : Vec F S2 .f32) : Elt F .f32 :=
  View.ld x0 (Rect.unit (s := S2) ![1] S1.size inb_S2_S1_1) (Shape.Idx.first (numel1_S1.symm ▸ Nat.one_pos))

/-! ## One column block: from the accumulated gradient `g`, the codes and the scales -/

/-- The new first moment. -/
abbrev mNew (g : Vec F S1024x128 .f32) (mc : Vec F S1024x128 .i8) (ms : Vec F S1024x1 .f32) : FVec F S1024x128 .f32 := k0_pay23 g mc ms
/-- The new second moment. -/
abbrev vNew (g : Vec F S1024x128 .f32) (vc : Vec F S1024x128 .i8) (vs : Vec F S1024x1 .f32) : FVec F S1024x128 .f32 := k0_pay24 g vc vs
/-- The quantiser's scale of a block. -/
abbrev qScale (y : FVec F S1024x128 .f32) : FVec F S1024x1 .f32 := k0_pay28 y
/-- The quantiser's codes of a block. -/
abbrev qCode (y : FVec F S1024x128 .f32) : IVec S1024x128 8 := k0_pay29 y
/-- The normalised step. -/
abbrev nNew (b1 b2 : Elt F .f32) (m v : FVec F S1024x128 .f32) : FVec F S1024x128 .bf16 := k0_pay30 b1 b2 m v

/-! ## What the five outputs' buffers hold after the last point of a row, from the row's sum and the blocks (last store first) -/

def outN (x0 : Vec F S2 .f32) (acc : Vec F S1024x512 .f32) (x4 : Vec F S1024x512 .i8) (x5 : Vec F S1024x4 .f32) (x6 : Vec F S1024x512 .i8) (x7 : Vec F S1024x4 .f32) : Vec F S1024x512 .bf16 :=
  View.canon [⟨rQ3, nNew (bcAt0 x0) (bcAt1 x0) (mNew (View.ld acc rQ3) (View.ld x4 rQ3) (View.ld x5 rS3)) (vNew (View.ld acc rQ3) (View.ld x6 rQ3) (View.ld x7 rS3))⟩,
    ⟨rQ2, nNew (bcAt0 x0) (bcAt1 x0) (mNew (View.ld acc rQ2) (View.ld x4 rQ2) (View.ld x5 rS2)) (vNew (View.ld acc rQ2) (View.ld x6 rQ2) (View.ld x7 rS2))⟩,
    ⟨rQ1, nNew (bcAt0 x0) (bcAt1 x0) (mNew (View.ld acc rQ1) (View.ld x4 rQ1) (View.ld x5 rS1)) (vNew (View.ld acc rQ1) (View.ld x6 rQ1) (View.ld x7 rS1))⟩,
    ⟨rQ0, nNew (bcAt0 x0) (bcAt1 x0) (mNew (View.ld acc rQ0) (View.ld x4 rQ0) (View.ld x5 rS0)) (vNew (View.ld acc rQ0) (View.ld x6 rQ0) (View.ld x7 rS0))⟩]
def outMC (acc : Vec F S1024x512 .f32) (x4 : Vec F S1024x512 .i8) (x5 : Vec F S1024x4 .f32) : Vec F S1024x512 .i8 :=
  View.canon [⟨rQ3, qCode (mNew (View.ld acc rQ3) (View.ld x4 rQ3) (View.ld x5 rS3))⟩,
    ⟨rQ2, qCode (mNew (View.ld acc rQ2) (View.ld x4 rQ2) (View.ld x5 rS2))⟩,
    ⟨rQ1, qCode (mNew (View.ld acc rQ1) (View.ld x4 rQ1) (View.ld x5 rS1))⟩,
    ⟨rQ0, qCode (mNew (View.ld acc rQ0) (View.ld x4 rQ0) (View.ld x5 rS0))⟩]
def outMS (acc : Vec F S1024x512 .f32) (x4 : Vec F S1024x512 .i8) (x5 : Vec F S1024x4 .f32) : Vec F S1024x4 .f32 :=
  View.canon [⟨rS3, qScale (mNew (View.ld acc rQ3) (View.ld x4 rQ3) (View.ld x5 rS3))⟩,
    ⟨rS2, qScale (mNew (View.ld acc rQ2) (View.ld x4 rQ2) (View.ld x5 rS2))⟩,
    ⟨rS1, qScale (mNew (View.ld acc rQ1) (View.ld x4 rQ1) (View.ld x5 rS1))⟩,
    ⟨rS0, qScale (mNew (View.ld acc rQ0) (View.ld x4 rQ0) (View.ld x5 rS0))⟩]
def outVC (acc : Vec F S1024x512 .f32) (x6 : Vec F S1024x512 .i8) (x7 : Vec F S1024x4 .f32) : Vec F S1024x512 .i8 :=
  View.canon [⟨rQ3, qCode (vNew (View.ld acc rQ3) (View.ld x6 rQ3) (View.ld x7 rS3))⟩,
    ⟨rQ2, qCode (vNew (View.ld acc rQ2) (View.ld x6 rQ2) (View.ld x7 rS2))⟩,
    ⟨rQ1, qCode (vNew (View.ld acc rQ1) (View.ld x6 rQ1) (View.ld x7 rS1))⟩,
    ⟨rQ0, qCode (vNew (View.ld acc rQ0) (View.ld x6 rQ0) (View.ld x7 rS0))⟩]
def outVS (acc : Vec F S1024x512 .f32) (x6 : Vec F S1024x512 .i8) (x7 : Vec F S1024x4 .f32) : Vec F S1024x4 .f32 :=
  View.canon [⟨rS3, qScale (vNew (View.ld acc rQ3) (View.ld x6 rQ3) (View.ld x7 rS3))⟩,
    ⟨rS2, qScale (vNew (View.ld acc rQ2) (View.ld x6 rQ2) (View.ld x7 rS2))⟩,
    ⟨rS1, qScale (vNew (View.ld acc rQ1) (View.ld x6 rQ1) (View.ld x7 rS1))⟩,
    ⟨rS0, qScale (vNew (View.ld acc rQ0) (View.ld x6 rQ0) (View.ld x7 rS0))⟩]

theorem cover_bf16 (p0 p1 p2 p3 : Vec F S1024x128 .bf16) (y : S1024x512.Idx) :
    ∃ pc ∈ ([⟨rQ3, p3⟩, ⟨rQ2, p2⟩, ⟨rQ1, p1⟩, ⟨rQ0, p0⟩] : List (View.Piece (Elt F) S1024x512 .bf16)), y ∈ pc.1.set :=
  View.cover_of_tiledL [⟨rQ3, p3⟩, ⟨rQ2, p2⟩, ⟨rQ1, p1⟩, ⟨rQ0, p0⟩] S1024x128.size (by sl_kernel_rfl) y

theorem cover_i8 (p0 p1 p2 p3 : Vec F S1024x128 .i8) (y : S1024x512.Idx) :
    ∃ pc ∈ ([⟨rQ3, p3⟩, ⟨rQ2, p2⟩, ⟨rQ1, p1⟩, ⟨rQ0, p0⟩] : List (View.Piece (Elt F) S1024x512 .i8)), y ∈ pc.1.set :=
  View.cover_of_tiledL [⟨rQ3, p3⟩, ⟨rQ2, p2⟩, ⟨rQ1, p1⟩, ⟨rQ0, p0⟩] S1024x128.size (by sl_kernel_rfl) y

theorem cover_scale (p0 p1 p2 p3 : Vec F S1024x1 .f32) (y : S1024x4.Idx) :
    ∃ pc ∈ ([⟨rS3, p3⟩, ⟨rS2, p2⟩, ⟨rS1, p1⟩, ⟨rS0, p0⟩] : List (View.Piece (Elt F) S1024x4 .f32)), y ∈ pc.1.set :=
  View.cover_of_tiledL [⟨rS3, p3⟩, ⟨rS2, p2⟩, ⟨rS1, p1⟩, ⟨rS0, p0⟩] S1024x1.size (by sl_kernel_rfl) y

set_option maxHeartbeats 4000000 in
/-- The body at a row's last point. -/
theorem body_last (c : Dev nD) (E : Set ℕ) (i : grid0.Coords) (arg2 : Memref sig .tc .smem S2 .f32) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S512x512 .bf16) (harg5 : arg5.IsWhole) (arg6 : Memref sig .tc .vmem S1024x512 .i8) (harg6 : arg6.IsWhole) (arg7 : Memref sig .tc .vmem S1024x4 .f32) (harg7 : arg7.IsWhole) (arg8 : Memref sig .tc .vmem S1024x512 .i8) (harg8 : arg8.IsWhole) (arg9 : Memref sig .tc .vmem S1024x4 .f32) (harg9 : arg9.IsWhole) (arg10 : Memref sig .tc .vmem S1024x512 .bf16) (harg10 : arg10.IsWhole) (arg11 : Memref sig .tc .vmem S1024x512 .i8) (harg11 : arg11.IsWhole) (arg12 : Memref sig .tc .vmem S1024x4 .f32) (harg12 : arg12.IsWhole) (arg13 : Memref sig .tc .vmem S1024x512 .i8) (harg13 : arg13.IsWhole) (arg14 : Memref sig .tc .vmem S1024x4 .f32) (harg14 : arg14.IsWhole) (arg15 : Memref sig .tc .vmem S1024x4096 .bf16) (harg15 : arg15.IsWhole) (arg16 : Memref sig .tc .vmem S1024x512 .f32) (harg16 : arg16.IsWhole) (hc0 : ¬condFirst i) (hc1 : condLast i)
    (x0 : Vec F S2 .f32) (x2 : Vec F S4096x512 .bf16) (x3 : Vec F S512x512 .bf16) (x4 : Vec F S1024x512 .i8) (x5 : Vec F S1024x4 .f32) (x6 : Vec F S1024x512 .i8) (x7 : Vec F S1024x4 .f32)
    (dyt : Vec F S1024x4096 .bf16) (acc : Vec F S1024x512 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare dyt ∗ owns (c : Thread nD τ) arg16 fullShare acc
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
          ∗ owns (c : Thread nD τ) arg10 fullShare (outN x0 (stepAcc dyt x2 acc x3) x4 x5 x6 x7) ∗ owns (c : Thread nD τ) arg11 fullShare (outMC (stepAcc dyt x2 acc x3) x4 x5) ∗ owns (c : Thread nD τ) arg12 fullShare (outMS (stepAcc dyt x2 acc x3) x4 x5) ∗ owns (c : Thread nD τ) arg13 fullShare (outVC (stepAcc dyt x2 acc x3) x6 x7) ∗ owns (c : Thread nD τ) arg14 fullShare (outVS (stepAcc dyt x2 acc x3) x6 x7)
          ∗ owns (c : Thread nD τ) arg15 fullShare dyt ∗ owns (c : Thread nD τ) arg16 fullShare (stepAcc dyt x2 acc x3)) -∗ K ⟨⟩))
      ⊢ wp frame (wpE (defs₀ (F := F)) Variants.none c none) E (cc0_galore_grad_adam i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_galore_grad_adam_eq_skeleton]; unfold cc0_galore_grad_adam_skel
  simp only [k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, ⟨%fs1, %hfs1, HS1⟩, Hk⟩
  subst hf0 hf2 hf3 hf4 hf5 hf6 hf7 hfs0 hfs1
  sl_exec (disch := first | sl_exact hc0 | sl_exact hc1)
  sl_step
  have hA (r : Rect S1024x512) : View.readCov (Val := Elt F) arg16.view [⟨rAcc, k0_pay2 (View.readAt (Elt F) arg15.view rDyt.toLoadRect fs0) (View.readAt (Elt F) arg4.view rX.toLoadRect f2) (View.readAt (Elt F) arg16.view rAcc.toLoadRect fs1) (View.readAt (Elt F) arg5.view rP.toLoadRect f3)⟩] r.toLoadRect
      = View.ld (stepAcc (View.read (Elt F) arg15.view fs0) (View.read (Elt F) arg4.view f2) (View.read (Elt F) arg16.view fs1) (View.read (Elt F) arg5.view f3)) r :=
    (View.readCov_eq_canon' _ _ _).trans (congrArg (fun z => View.ld z r) ((View.canon_unit_zero zero2 _ _).trans (stepAcc_ld _ _ _ _)))
  iapply Hk
  isplitl [H0]
  · iexists _; isplitr; · ipureintro; rfl
    iexact H0
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (View.read_writes_eq_canon _ _ _ (cover_bf16 _ _ _ _)).trans ?_
    sl_unfold_words
    unfold outN
    rw [← hA rQ0, ← hA rQ1, ← hA rQ2, ← hA rQ3]
    rfl
  isplitl [H9]
  · iexists _; isplitr
    swap; · iexact H9
    ipureintro
    refine (View.read_writes_eq_canon _ _ _ (cover_i8 _ _ _ _)).trans ?_
    sl_unfold_words
    unfold outMC
    rw [← hA rQ0, ← hA rQ1, ← hA rQ2, ← hA rQ3]
    rfl
  isplitl [H10]
  · iexists _; isplitr
    swap; · iexact H10
    ipureintro
    refine (View.read_writes_eq_canon _ _ _ (cover_scale _ _ _ _)).trans ?_
    sl_unfold_words
    unfold outMS
    rw [← hA rQ0, ← hA rQ1, ← hA rQ2, ← hA rQ3]
    rfl
  isplitl [H11]
  · iexists _; isplitr
    swap; · iexact H11
    ipureintro
    refine (View.read_writes_eq_canon _ _ _ (cover_i8 _ _ _ _)).trans ?_
    sl_unfold_words
    unfold outVC
    rw [← hA rQ0, ← hA rQ1, ← hA rQ2, ← hA rQ3]
    rfl
  isplitl [H12]
  · iexists _; isplitr
    swap; · iexact H12
    ipureintro
    refine (View.read_writes_eq_canon _ _ _ (cover_scale _ _ _ _)).trans ?_
    sl_unfold_words
    unfold outVS
    rw [← hA rQ0, ← hA rQ1, ← hA rQ2, ← hA rQ3]
    rfl
  isplitl [HS0]
  · iexists _; isplitr; · ipureintro; rfl
    iexact HS0
  iexists _; isplitr
  swap; · iexact HS1
  ipureintro
  exact ((View.read_writes_eq_canon _ _ _ (cover_acc _)).trans (View.canon_unit_zero zero2 _ _)).trans (stepAcc_ld _ _ _ _)

end Cert.Kernel.Gen

end
-- ==== Proof.GradData.lean ====
/- The first pallas_call's proof data: the blocks at a point, the two scratch buffers after each point, the invariant, and what
   every window's buffer holds after the body. -/
module

public import proofs.«01_k».proof.Proof.GradLast

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

variable (V : (c : Dev nD) → (b : Ref sig .tc) → Buf (Elt F) ((c : Thread nD τ).loc b))

/-! ## The input blocks, at their shapes -/

abbrev bBc (c : Dev nD) (t : Fin cfg0.N) : Vec F S2 .f32 := iblk0 V c 0 t
abbrev bDy (c : Dev nD) (t : Fin cfg0.N) : Vec F S4096x1024 .bf16 := iblk0 V c 1 t
abbrev bX (c : Dev nD) (t : Fin cfg0.N) : Vec F S4096x512 .bf16 := iblk0 V c 2 t
abbrev bP (c : Dev nD) (t : Fin cfg0.N) : Vec F S512x512 .bf16 := iblk0 V c 3 t
abbrev bMC (c : Dev nD) (t : Fin cfg0.N) : Vec F S1024x512 .i8 := iblk0 V c 4 t
abbrev bMS (c : Dev nD) (t : Fin cfg0.N) : Vec F S1024x4 .f32 := iblk0 V c 5 t
abbrev bVC (c : Dev nD) (t : Fin cfg0.N) : Vec F S1024x512 .i8 := iblk0 V c 6 t
abbrev bVS (c : Dev nD) (t : Fin cfg0.N) : Vec F S1024x4 .f32 := iblk0 V c 7 t

/-! ## The scratch after each point: the transposed gradient block and the running sum -/

/-- After point `n`: at a row's first point the scratch is made anew, at the others the sum grows by one step. -/
def scAt (c : Dev nD) : (n : ℕ) → n < cfg0.N → Vec F S1024x4096 .bf16 × Vec F S1024x512 .f32
  | 0, h => (dytOf (bDy V c ⟨0, h⟩), stepAcc (dytOf (bDy V c ⟨0, h⟩)) (bX V c ⟨0, h⟩) zeroAcc (bP V c ⟨0, h⟩))
  | n + 1, h =>
    if (n + 1) % 12 = 0 then
      (dytOf (bDy V c ⟨n + 1, h⟩), stepAcc (dytOf (bDy V c ⟨n + 1, h⟩)) (bX V c ⟨n + 1, h⟩) zeroAcc (bP V c ⟨n + 1, h⟩))
    else ((scAt c n (Nat.lt_of_succ_lt h)).1,
      stepAcc (scAt c n (Nat.lt_of_succ_lt h)).1 (bX V c ⟨n + 1, h⟩) (scAt c n (Nat.lt_of_succ_lt h)).2 (bP V c ⟨n + 1, h⟩))

theorem scAt_first (c : Dev nD) (t : Fin cfg0.N) (h0 : t.val % 12 = 0) :
    scAt V c t.val t.isLt = (dytOf (bDy V c t), stepAcc (dytOf (bDy V c t)) (bX V c t) zeroAcc (bP V c t)) := by
  obtain ⟨n, hn⟩ := t
  cases n with
  | zero => rfl
  | succ n => exact if_pos h0

theorem scAt_next (c : Dev nD) (t : Fin cfg0.N) (h0 : ¬t.val % 12 = 0) (hp : t.val - 1 < cfg0.N) :
    scAt V c t.val t.isLt = ((scAt V c (t.val - 1) hp).1, stepAcc (scAt V c (t.val - 1) hp).1 (bX V c t) (scAt V c (t.val - 1) hp).2 (bP V c t)) := by
  obtain ⟨n, hn⟩ := t
  cases n with
  | zero => exact absurd rfl h0
  | succ n => exact if_neg h0

/-! ## The invariant -/

/-- The rest of the region's scoped buffers (the second call's staging buffers), each at anything. -/
def restStg (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The launch's invariant, with the two scratch buffers named. -/
theorem PhiA0_eq (c : Dev nD) :
    (Pipeline.ΦA spec0 c : sProp 𝕄) = iprop(((∃ d, owns (c : Thread nD τ) scDyt fullShare d) ∗ (∃ d, owns (c : Thread nD τ) scAcc fullShare d) ∗ restStg c) ∗ (∃ r, prngReg c r)) := by
  unfold Pipeline.ΦA restStg
  rw [scopedRest0_eq]
  simp only [scDyt, scAcc, owns_whole]
  rfl

/-- Before the first point the launch's; after point `n` the two scratch buffers hold `scAt`. -/
def PhiS (c : Dev nD) : (n : ℕ) → n ≤ cfg0.N → sProp 𝕄
  | 0, _ => Pipeline.ΦA spec0 c
  | n + 1, hn => iprop((owns (c : Thread nD τ) scDyt fullShare (scAt V c n hn).1 ∗ owns (c : Thread nD τ) scAcc fullShare (scAt V c n hn).2 ∗ restStg c) ∗ (∃ r, prngReg c r))

theorem PhiS_succ (c : Dev nD) (n : ℕ) (hn : n < cfg0.N) :
    PhiS V c (n + 1) hn = iprop((owns (c : Thread nD τ) scDyt fullShare (scAt V c n hn).1 ∗ owns (c : Thread nD τ) scAcc fullShare (scAt V c n hn).2 ∗ restStg c) ∗ (∃ r, prngReg c r)) := rfl

theorem PhiS_pos (c : Dev nD) (n : ℕ) (h : n ≤ cfg0.N) (hz : n ≠ 0) (hp : n - 1 < cfg0.N) :
    PhiS V c n h = iprop((owns (c : Thread nD τ) scDyt fullShare (scAt V c (n - 1) hp).1 ∗ owns (c : Thread nD τ) scAcc fullShare (scAt V c (n - 1) hp).2 ∗ restStg c) ∗ (∃ r, prngReg c r)) := by
  cases n with
  | zero => exact absurd rfl hz
  | succ n => rfl

/-- At any point the invariant gives the scratch at something. -/
theorem PhiS_any (c : Dev nD) (n : ℕ) (h : n ≤ cfg0.N) : PhiS V c n h ⊢ Pipeline.ΦA spec0 c := by
  cases n with
  | zero => exact Idealize.SL.BI.Entails.refl _
  | succ n =>
    rw [PhiS_succ, PhiA0_eq]
    iintro ⟨⟨HS0, HS1, HR⟩, Hg⟩
    isplitl [HS0 HS1 HR]
    · isplitl [HS0]
      · iexists _; iexact HS0
      isplitl [HS1]
      · iexists _; iexact HS1
      iexact HR
    iexact Hg

/-! ## The proof data -/

/-- The inputs' buffers hold their blocks; the outputs' hold the optimizer step of the row's running sum (what is written
    back at the row's last point). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => outN (bBc V c t) (scAt V c t.val t.isLt).2 (bMC V c t) (bMS V c t) (bVC V c t) (bVS V c t)
    | ⟨9, _⟩ => outMC (scAt V c t.val t.isLt).2 (bMC V c t) (bMS V c t)
    | ⟨10, _⟩ => outMS (scAt V c t.val t.isLt).2 (bMC V c t) (bMS V c t)
    | ⟨11, _⟩ => outVC (scAt V c t.val t.isLt).2 (bVC V c t) (bVS V c t)
    | ⟨12, _⟩ => outVS (scAt V c t.val t.isLt).2 (bVC V c t) (bVS V c t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi_castSucc0 (c : Dev nD) (t : Fin cfg0.N) : (dat0 V c).Φ t.castSucc = PhiS V c t.val (Nat.le_of_lt t.isLt) := by
  dsimp only [dat0]; exact Pipeline.Dat.Φ_castSucc (PhiS V c) t
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = outN (bBc V c t) (scAt V c t.val t.isLt).2 (bMC V c t) (bMS V c t) (bVC V c t) (bVS V c t) := by dsimp only [dat0]
theorem after0_9 (c : Dev nD) (t : Fin cfg0.N) : (dat0 V c).after 9 t = outMC (scAt V c t.val t.isLt).2 (bMC V c t) (bMS V c t) := by dsimp only [dat0]
theorem after0_10 (c : Dev nD) (t : Fin cfg0.N) : (dat0 V c).after 10 t = outMS (scAt V c t.val t.isLt).2 (bMC V c t) (bMS V c t) := by dsimp only [dat0]
theorem after0_11 (c : Dev nD) (t : Fin cfg0.N) : (dat0 V c).after 11 t = outVC (scAt V c t.val t.isLt).2 (bVC V c t) (bVS V c t) := by dsimp only [dat0]
theorem after0_12 (c : Dev nD) (t : Fin cfg0.N) : (dat0 V c).after 12 t = outVS (scAt V c t.val t.isLt).2 (bVC V c t) (bVS V c t) := by dsimp only [dat0]
theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d

/-! ## The invariant's two ends -/

theorem hin0 (c : Dev nD) : Pipeline.ΦA spec0 c ⊢ (dat0 V c).Φ 0 := by
  rw [show (dat0 V c).Φ 0 = PhiS V c 0 (Nat.zero_le _) from rfl]
  exact Idealize.SL.BI.Entails.refl _
theorem hout0 (c : Dev nD) : (dat0 V c).Φ (Fin.last cfg0.N) ⊢ Pipeline.ΦA spec0 c :=
  by
  rw [show (dat0 V c).Φ (Fin.last cfg0.N) = PhiS V c (Fin.last cfg0.N).val (Nat.le_of_lt_succ (Fin.last cfg0.N).isLt) from rfl]
  exact PhiS_any V c _ _

end Data

end Cert.Kernel.Gen

end
-- ==== Proof.GradBody.lean ====
/- The first pallas_call's body obligation: at every point the body takes the windows' buffers and the scratch from what
   the point before left to what this point leaves. -/
module

public import proofs.«01_k».proof.Proof.GradData

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t)

/-! ## What the body leaves in each window -/

theorem leaves0_0 (c : Dev nD) (t : Fin cfg0.N) : (dat0 V c).leavesExact 0 t = owns (c : Thread nD τ) (ms0_0 t) fullShare (iblk0 V c 0 t) := by
  unfold Dat.leavesExact; rw [show cfg0.idle 0 (grid0.coords t) = false from rfl, after0_0]
theorem leaves0_1 (c : Dev nD) (t : Fin cfg0.N) : (dat0 V c).leavesExact 1 t = owns (c : Thread nD τ) (ms0_1 t) fullShare (iblk0 V c 1 t) := by
  unfold Dat.leavesExact; rw [show cfg0.idle 1 (grid0.coords t) = false from rfl, after0_1]
theorem leaves0_2 (c : Dev nD) (t : Fin cfg0.N) : (dat0 V c).leavesExact 2 t = owns (c : Thread nD τ) (ms0_2 t) fullShare (iblk0 V c 2 t) := by
  unfold Dat.leavesExact; rw [show cfg0.idle 2 (grid0.coords t) = false from rfl, after0_2]
theorem leaves0_3 (c : Dev nD) (t : Fin cfg0.N) : (dat0 V c).leavesExact 3 t = owns (c : Thread nD τ) (ms0_3 t) fullShare (iblk0 V c 3 t) := by
  unfold Dat.leavesExact; rw [show cfg0.idle 3 (grid0.coords t) = false from rfl, after0_3]
theorem leaves0_4 (c : Dev nD) (t : Fin cfg0.N) : (dat0 V c).leavesExact 4 t = owns (c : Thread nD τ) (ms0_4 t) fullShare (iblk0 V c 4 t) := by
  unfold Dat.leavesExact; rw [show cfg0.idle 4 (grid0.coords t) = false from rfl, after0_4]
theorem leaves0_5 (c : Dev nD) (t : Fin cfg0.N) : (dat0 V c).leavesExact 5 t = owns (c : Thread nD τ) (ms0_5 t) fullShare (iblk0 V c 5 t) := by
  unfold Dat.leavesExact; rw [show cfg0.idle 5 (grid0.coords t) = false from rfl, after0_5]
theorem leaves0_6 (c : Dev nD) (t : Fin cfg0.N) : (dat0 V c).leavesExact 6 t = owns (c : Thread nD τ) (ms0_6 t) fullShare (iblk0 V c 6 t) := by
  unfold Dat.leavesExact; rw [show cfg0.idle 6 (grid0.coords t) = false from rfl, after0_6]
theorem leaves0_7 (c : Dev nD) (t : Fin cfg0.N) : (dat0 V c).leavesExact 7 t = owns (c : Thread nD τ) (ms0_7 t) fullShare (iblk0 V c 7 t) := by
  unfold Dat.leavesExact; rw [show cfg0.idle 7 (grid0.coords t) = false from rfl, after0_7]
theorem leaves0_8 (c : Dev nD) (t : Fin cfg0.N) (h : condLast (grid0.coords t)) : (dat0 V c).leavesExact 8 t = owns (c : Thread nD τ) (ms0_8 t) fullShare ((dat0 V c).after 8 t) := by
  unfold Dat.leavesExact; rw [live0_8 t h]
theorem leaves0_9 (c : Dev nD) (t : Fin cfg0.N) (h : condLast (grid0.coords t)) : (dat0 V c).leavesExact 9 t = owns (c : Thread nD τ) (ms0_9 t) fullShare ((dat0 V c).after 9 t) := by
  unfold Dat.leavesExact; rw [live0_9 t h]
theorem leaves0_10 (c : Dev nD) (t : Fin cfg0.N) (h : condLast (grid0.coords t)) : (dat0 V c).leavesExact 10 t = owns (c : Thread nD τ) (ms0_10 t) fullShare ((dat0 V c).after 10 t) := by
  unfold Dat.leavesExact; rw [live0_10 t h]
theorem leaves0_11 (c : Dev nD) (t : Fin cfg0.N) (h : condLast (grid0.coords t)) : (dat0 V c).leavesExact 11 t = owns (c : Thread nD τ) (ms0_11 t) fullShare ((dat0 V c).after 11 t) := by
  unfold Dat.leavesExact; rw [live0_11 t h]
theorem leaves0_12 (c : Dev nD) (t : Fin cfg0.N) (h : condLast (grid0.coords t)) : (dat0 V c).leavesExact 12 t = owns (c : Thread nD τ) (ms0_12 t) fullShare ((dat0 V c).after 12 t) := by
  unfold Dat.leavesExact; rw [live0_12 t h]

/-! ## The three kinds of point -/

set_option maxHeartbeats 4000000 in
/-- A row's first point. -/
theorem sound_first (c : Dev nD) (t : Fin cfg0.N) (h0 : t.val % 12 = 0) : bodyPre0 V c t ⊢ wp frame (wpE (defs₀ (F := F)) Variants.none c none) Set.univ (bodyAt0 t) (fun _ => bodyPost0 V c t) := by
  have hc0 : condFirst (grid0.coords t) := (condFirst_iff t).mpr h0
  have hc1 : ¬condLast (grid0.coords t) := fun h => by have := (condLast_iff t).mp h; omega
  unfold bodyPre0 bodyPost0 bodyAt0
  simp only [before0_0, before0_1, before0_2, before0_3, before0_4, before0_5, before0_6, before0_7, leaves0_0, leaves0_1, leaves0_2, leaves0_3, leaves0_4, leaves0_5, leaves0_6, leaves0_7]
  rw [show (dat0 V c).owesAt () t.succ = (dat0 V c).owesAt () t.castSucc from rfl]
  rw [show (dat0 V c).Φ t.succ = PhiS V c (t.val + 1) t.isLt from rfl, PhiS_succ, Phi_castSucc0]
  rw [Dat.leavesExact_idle (dat0 V c) 8 t (idle0_8 t hc1) (noFlush0_8 t hc1)]
  rw [Dat.leavesExact_idle (dat0 V c) 9 t (idle0_9 t hc1) (noFlush0_9 t hc1)]
  rw [Dat.leavesExact_idle (dat0 V c) 10 t (idle0_10 t hc1) (noFlush0_10 t hc1)]
  rw [Dat.leavesExact_idle (dat0 V c) 11 t (idle0_11 t hc1) (noFlush0_11 t hc1)]
  rw [Dat.leavesExact_idle (dat0 V c) 12 t (idle0_12 t hc1) (noFlush0_12 t hc1)]
  rw [scAt_first V c t h0]
  refine (BIClass.sep_mono (PhiS_any V c _ _) (Idealize.SL.BI.Entails.refl _)).trans ?_
  rw [PhiA0_eq]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_first c Set.univ (grid0.coords t) _ _ _ _ _ _ _ _ _ _ _ _ _ _ _ _ _ _ _ _ _ _ _ _ _ _ _ _ _ _ hc0 hc1 (bDy V c t) (bX V c t) (bP V c t) _)
  isplitl [H1]; · iexact H1
  isplitl [H2]; · iexact H2
  isplitl [H3]; · iexact H3
  isplitl [HS0]; · iexact HS0
  isplitl [HS1]; · iexact HS1
  iintro ⟨H1, H2, H3, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iexists _; iexact H12

set_option maxHeartbeats 4000000 in
/-- A point in the middle of a row. -/
theorem sound_mid (c : Dev nD) (t : Fin cfg0.N) (h0 : ¬t.val % 12 = 0) (h1 : ¬t.val % 12 = 11) : bodyPre0 V c t ⊢ wp frame (wpE (defs₀ (F := F)) Variants.none c none) Set.univ (bodyAt0 t) (fun _ => bodyPost0 V c t) := by
  have hc0 : ¬condFirst (grid0.coords t) := fun h => h0 ((condFirst_iff t).mp h)
  have hc1 : ¬condLast (grid0.coords t) := fun h => h1 ((condLast_iff t).mp h)
  have hp : t.val - 1 < cfg0.N := Nat.lt_of_le_of_lt (Nat.sub_le _ _) t.isLt
  unfold bodyPre0 bodyPost0 bodyAt0
  simp only [before0_0, before0_1, before0_2, before0_3, before0_4, before0_5, before0_6, before0_7, leaves0_0, leaves0_1, leaves0_2, leaves0_3, leaves0_4, leaves0_5, leaves0_6, leaves0_7]
  rw [show (dat0 V c).owesAt () t.succ = (dat0 V c).owesAt () t.castSucc from rfl]
  rw [show (dat0 V c).Φ t.succ = PhiS V c (t.val + 1) t.isLt from rfl, PhiS_succ, Phi_castSucc0]
  rw [Dat.leavesExact_idle (dat0 V c) 8 t (idle0_8 t hc1) (noFlush0_8 t hc1)]
  rw [Dat.leavesExact_idle (dat0 V c) 9 t (idle0_9 t hc1) (noFlush0_9 t hc1)]
  rw [Dat.leavesExact_idle (dat0 V c) 10 t (idle0_10 t hc1) (noFlush0_10 t hc1)]
  rw [Dat.leavesExact_idle (dat0 V c) 11 t (idle0_11 t hc1) (noFlush0_11 t hc1)]
  rw [Dat.leavesExact_idle (dat0 V c) 12 t (idle0_12 t hc1) (noFlush0_12 t hc1)]
  rw [scAt_next V c t h0 hp, PhiS_pos V c t.val _ (fun h => h0 (by rw [h])) hp]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_mid c Set.univ (grid0.coords t) _ _ _ _ _ _ _ _ _ _ _ _ _ _ _ _ _ _ _ _ _ _ _ _ _ _ _ _ _ _ hc0 hc1 (bX V c t) (bP V c t) _ _ _)
  isplitl [H2]; · iexact H2
  isplitl [H3]; · iexact H3
  isplitl [HS0]; · iexact HS0
  isplitl [HS1]; · iexact HS1
  iintro ⟨H2, H3, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iexists _; iexact H12

set_option maxHeartbeats 4000000 in
/-- A row's last point. -/
theorem sound_last (c : Dev nD) (t : Fin cfg0.N) (h1 : t.val % 12 = 11) : bodyPre0 V c t ⊢ wp frame (wpE (defs₀ (F := F)) Variants.none c none) Set.univ (bodyAt0 t) (fun _ => bodyPost0 V c t) := by
  have h0 : ¬t.val % 12 = 0 := by omega
  have hc0 : ¬condFirst (grid0.coords t) := fun h => h0 ((condFirst_iff t).mp h)
  have hc1 : condLast (grid0.coords t) := (condLast_iff t).mpr h1
  have hp : t.val - 1 < cfg0.N := Nat.lt_of_le_of_lt (Nat.sub_le _ _) t.isLt
  unfold bodyPre0 bodyPost0 bodyAt0
  simp only [before0_0, before0_1, before0_2, before0_3, before0_4, before0_5, before0_6, before0_7, leaves0_0, leaves0_1, leaves0_2, leaves0_3, leaves0_4, leaves0_5, leaves0_6, leaves0_7]
  rw [show (dat0 V c).owesAt () t.succ = (dat0 V c).owesAt () t.castSucc from rfl]
  rw [show (dat0 V c).Φ t.succ = PhiS V c (t.val + 1) t.isLt from rfl, PhiS_succ, Phi_castSucc0]
  rw [leaves0_8 V c t hc1, leaves0_9 V c t hc1, leaves0_10 V c t hc1, leaves0_11 V c t hc1, leaves0_12 V c t hc1, after0_8, after0_9, after0_10, after0_11, after0_12]
  rw [scAt_next V c t h0 hp, PhiS_pos V c t.val _ (fun h => h0 (by rw [h])) hp]
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_last c Set.univ (grid0.coords t) _ _ _ _ _ _ _ _ _ _ _ _ _ _ _ _ _ _ _ _ _ _ _ _ _ _ _ _ _ _ hc0 hc1 (bBc V c t) (bX V c t) (bP V c t) (bMC V c t) (bMS V c t) (bVC V c t) (bVS V c t) _ _ _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  iintro ⟨H0, H2, H3, H4, H5, H6, H7, H8, H9, H10, H11, H12, HS0, HS1⟩
  isplitl [HS0 HS1 HR Hg]
  · isplitl [HS0 HS1 HR]
    · isplitl [HS0]; · iexact HS0
      isplitl [HS1]; · iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem sound_body0 (c : Dev nD) (t : Fin cfg0.N) : bodyPre0 V c t ⊢ wp frame (wpE (defs₀ (F := F)) Variants.none c none) Set.univ (bodyAt0 t) (fun _ => bodyPost0 V c t) := by
  by_cases h0 : t.val % 12 = 0
  · exact sound_first V c t h0
  by_cases h1 : t.val % 12 = 11
  · exact sound_last V c t h1
  · exact sound_mid V c t h0 h1

theorem defs₀_row0 (t : Fin cfg0.N) : defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Body

end Cert.Kernel.Gen

end
-- ==== Proof.Update.lean ====
/- The second pallas_call (`cc1_galore_update`): its body's triple, its proof data and its body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x512 := Rect.unit (s := S1024x512) ![0, 0] S1024x512.size inb_S1024x512_S1024x512_0_0
abbrev r1_1 : Rect S512x512 := Rect.unit (s := S512x512) ![0, 0] S512x512.size inb_S512x512_S512x512_0_0

/-! ## What the body leaves in each output window's buffer -/

/-- Window 3's staging buffer after the body, from the input windows' blocks: its 1 store as pieces, LAST
    FIRST (Lib/Pipeline/FrameBody.lean `View.canon`; the payloads are the skeleton's). -/
def out1_3 (x0 : Vec F S1024x512 .bf16) (x1 : Vec F S512x512 .bf16) (x2 : Vec F S1024x512 .bf16) : Vec F S1024x512 .bf16 :=
  View.canon [⟨r1_0, k1_pay2 (View.ld x0 r1_0) (View.ld x1 r1_1) (View.ld x2 r1_0)⟩]

/-- Its stores tile the buffer (checked by evaluation), so they cover it. -/
theorem cover1_3 (p0 : Vec F S1024x512 .bf16) (y : S1024x512.Idx) :
    ∃ pc ∈ ([⟨r1_0, p0⟩] : List (View.Piece (Elt F) S1024x512 .bf16)), y ∈ pc.1.set :=
  View.cover_of_tiled [⟨r1_0, p0⟩] S1024x512.size (by rfl) y

/-- Window 4's staging buffer after the body, from the input windows' blocks: its 1 store as pieces, LAST
    FIRST (Lib/Pipeline/FrameBody.lean `View.canon`; the payloads are the skeleton's). -/
def out1_4 (x0 : Vec F S1024x512 .bf16) (x1 : Vec F S512x512 .bf16) (x2 : Vec F S1024x512 .bf16) : Vec F S1024x512 .f32 :=
  View.canon [⟨r1_0, k1_pay1 (View.ld x0 r1_0) (View.ld x1 r1_1)⟩]

/-- Its stores tile the buffer (checked by evaluation), so they cover it. -/
theorem cover1_4 (p0 : Vec F S1024x512 .f32) (y : S1024x512.Idx) :
    ∃ pc ∈ ([⟨r1_0, p0⟩] : List (View.Piece (Elt F) S1024x512 .f32)), y ∈ pc.1.set :=
  View.cover_of_tiled [⟨r1_0, p0⟩] S1024x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1024x512 .bf16) (harg2 : arg2.IsWhole) (arg3 : Memref sig .tc .vmem S512x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .f32) (harg6 : arg6.IsWhole)
    (x0 : Vec F S1024x512 .bf16) (x1 : Vec F S512x512 .bf16) (x2 : Vec F S1024x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2) ∗ owns (c : Thread nD τ) arg6 fullShare (out1_4 x0 x1 x2)) -∗ K ⟨⟩))
      ⊢ wp frame (wpE (defs₀ (F := F)) Variants.none c none) E (cc1_galore_update i arg2 harg2 arg3 harg3 arg4 harg4 arg5 harg5 arg6 harg6) K := by
  simp only [cc1_galore_update_eq_skeleton]; unfold cc1_galore_update_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.Whole.lean ====
/- The whole kernel's run: the host operations, the two pallas_calls, and the buffers' contents at every boundary between them. -/
module

public import proofs.«01_k».proof.Proof.GradBody
public import proofs.«01_k».proof.Proof.Update
public import Idealize.ShloMosaic.Lib.Pipeline.RegionsLoop
public import Idealize.ShloMosaic.Lib.Pipeline.FrameSuffix

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_cst_0, main_v4, main_cst_1, main_v5, main_cst_2, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)
theorem W3_main_arg5 (c : Dev nD) : W3 m ρ c (Proc.devRef .tc main_arg5) = m ((c : Thread nD τ).loc main_arg5) :=
  W3_args m ρ c main_arg5 (by decide)
theorem W3_main_arg6 (c : Dev nD) : W3 m ρ c (Proc.devRef .tc main_arg6) = m ((c : Thread nD τ).loc main_arg6) :=
  W3_args m ρ c main_arg6 (by decide)
theorem W3_main_arg7 (c : Dev nD) : W3 m ρ c (Proc.devRef .tc main_arg7) = m ((c : Thread nD τ).loc main_arg7) :=
  W3_args m ρ c main_arg7 (by decide)
theorem W3_main_arg8 (c : Dev nD) : W3 m ρ c (Proc.devRef .tc main_arg8) = m ((c : Thread nD τ).loc main_arg8) :=
  W3_args m ρ c main_arg8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]; refine (hout0 (V1 m ρ) c).trans ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main terminates, nothing faulting, and leaves
    every unscoped buffer at the last boundary's contents `W3` and every counter at zero. -/
theorem run_main : θ_run defs (onTc (τ := τ) (main (F := F))) ⟨m, fun _ => 0, ρ⟩ (fun r =>
      (∀ c : Dev nD, ∀ b ∈ Pipeline.ucRefs τ sig, r.2.mem ((c : Dev nD), b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨fun c b hb => h c b hb, funext fun g => hz g (.inr (no_unscoped g.2))⟩)

/-- The frame: the argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c),
       (h.1 c _ (mem_uc main_arg5 (by decide))).trans (W3_main_arg5 m ρ c),
       (h.1 c _ (mem_uc main_arg6 (by decide))).trans (W3_main_arg6 m ρ c),
       (h.1 c _ (mem_uc main_arg7 (by decide))).trans (W3_main_arg7 m ρ c),
       (h.1 c _ (mem_uc main_arg8 (by decide))).trans (W3_main_arg8 m ρ c)⟩, h.2⟩) (run_main m ρ)

end Cert.Kernel.Gen

end
-- ==== Proof.Spec.lean ====
/- The optimizer step of one lane block and the projected gradient, as plain functions of extended reals: the common
   form in which the kernel's values and the reference's values are compared. -/
module

public import Idealize.ShloMosaic.Lib.Pointwise
public import Idealize.ShloMosaic.PureOps.Ideal.Laws

@[expose] public section

noncomputable section

namespace Cert.Proof.Spec

open Idealize.ShloMosaic
open scoped BigOperators

/-- The first moment of one element: `0.9 · (code · scale) + 0.1 · g`. -/
def mom (c : Elt Ideal .i8) (s g : EReal) : EReal :=
  Ideal.ofBits .f32 1063675494#32 * ((FloatOps.sitofp (F := Ideal) .f32 c : EReal) * s) + Ideal.ofBits .f32 1036831949#32 * g

/-- The second moment of one element: `0.999 · (code · scale) + 0.001 · g · g`. -/
def var (c : Elt Ideal .i8) (s g : EReal) : EReal :=
  Ideal.ofBits .f32 1065336439#32 * ((FloatOps.sitofp (F := Ideal) .f32 c : EReal) * s) + Ideal.ofBits .f32 981668463#32 * g * g

/-- The greatest magnitude of a lane block. -/
def amax (y : Fin 128 → EReal) : EReal :=
  Finset.fold max (Ideal.ofBits .f32 4286578688#32) (fun x => FloatOps.absf (F := Ideal) (φ := .f32) (y x)) Finset.univ

open Classical in
/-- The scale of a lane block: its greatest magnitude over 127, or one for a block of zeros. -/
def scale (y : Fin 128 → EReal) : EReal :=
  if amax y = 0 then 1 else Ideal.div (amax y) (Ideal.ofBits .f32 1123942400#32)

/-- The int8 code of lane `l`: the value over the scale, rounded to even and clamped to ±127. -/
def code (y : Fin 128 → EReal) (l : Fin 128) : Elt Ideal .i8 :=
  FloatOps.fptosi (F := Ideal) (φ := .f32) 8 (min (Ideal.ofBits .f32 1123942400#32) (max (Ideal.ofBits .f32 3271426048#32)
    (Ideal.liftRound Ideal.roundHalfEven (Ideal.div (y l) (scale y)))))

/-- The normalised update of one element from its moments and the two bias corrections. -/
def upd (b1 b2 mo va : EReal) : EReal :=
  Ideal.div (Ideal.div mo b1) (Ideal.sqrt (Ideal.div va b2) + Ideal.ofBits .f32 841731191#32)

/-- The step applied to a projected-back update. -/
def step (u : EReal) : EReal := Ideal.ofBits .f32 3139688202#32 * u

/-! ## Columns: block `b`, lane `l` is column `128·b + l` -/

set_option backward.proofsInPublic true in
/-- The column of lane `l` of block `b`. -/
def col (b : Fin 4) (l : Fin 128) : Fin 512 := ⟨128 * b.val + l.val, by have := b.isLt; have := l.isLt; omega⟩
set_option backward.proofsInPublic true in
/-- The block a column lies in. -/
def blk (q : Fin 512) : Fin 4 := ⟨q.val / 128, by have := q.isLt; omega⟩
set_option backward.proofsInPublic true in
/-- A column's lane in its block. -/
def lane (q : Fin 512) : Fin 128 := ⟨q.val % 128, Nat.mod_lt _ (by decide)⟩

theorem blk_col (b : Fin 4) (l : Fin 128) : blk (col b l) = b :=
  Fin.ext (by show (128 * b.val + l.val) / 128 = b.val; have := l.isLt; omega)
theorem lane_col (b : Fin 4) (l : Fin 128) : lane (col b l) = l :=
  Fin.ext (by show (128 * b.val + l.val) % 128 = l.val; have := l.isLt; omega)
theorem col_blk_lane (q : Fin 512) : col (blk q) (lane q) = q :=
  Fin.ext (by show 128 * (q.val / 128) + q.val % 128 = q.val; omega)

/-! ## The six results, from the arguments -/

/-- The arguments at their coordinates, with the two bias corrections already formed. -/
structure Args where
  x : Fin 4096 → Fin 6144 → EReal
  dy : Fin 4096 → Fin 15360 → EReal
  w : Fin 15360 → Fin 6144 → EReal
  p : Fin 6144 → Fin 512 → EReal
  b1 : EReal
  b2 : EReal
  mc : Fin 15360 → Fin 512 → Elt Ideal .i8
  ms : Fin 15360 → Fin 4 → EReal
  vc : Fin 15360 → Fin 512 → Elt Ideal .i8
  vs : Fin 15360 → Fin 4 → EReal

/-- Arguments equal field by field are equal. -/
theorem args_ext {a b : Args} (hx : a.x = b.x) (hdy : a.dy = b.dy) (hw : a.w = b.w) (hp : a.p = b.p) (h1 : a.b1 = b.b1) (h2 : a.b2 = b.b2)
    (hmc : a.mc = b.mc) (hms : a.ms = b.ms) (hvc : a.vc = b.vc) (hvs : a.vs = b.vs) : a = b := by
  cases a; cases b
  subst hx hdy hw hp h1 h2 hmc hms hvc hvs
  rfl

namespace Args

variable (a : Args)

/-- The weight gradient. -/
def grad (f : Fin 15360) (d : Fin 6144) : EReal := ∑ s : Fin 4096, a.dy s f * a.x s d
/-- The weight gradient projected on the subspace. -/
def proj (f : Fin 15360) (q : Fin 512) : EReal := ∑ d : Fin 6144, a.grad f d * a.p d q
/-- The new first moments. -/
def m (f : Fin 15360) (q : Fin 512) : EReal := mom (a.mc f q) (a.ms f (blk q)) (a.proj f q)
/-- The new second moments. -/
def v (f : Fin 15360) (q : Fin 512) : EReal := var (a.vc f q) (a.vs f (blk q)) (a.proj f q)
/-- The first moments' codes and scales. -/
def mCode (f : Fin 15360) (q : Fin 512) : Elt Ideal .i8 := code (fun l => a.m f (col (blk q) l)) (lane q)
def mScale (f : Fin 15360) (b : Fin 4) : EReal := scale fun l => a.m f (col b l)
/-- The second moments' codes and scales. -/
def vCode (f : Fin 15360) (q : Fin 512) : Elt Ideal .i8 := code (fun l => a.v f (col (blk q) l)) (lane q)
def vScale (f : Fin 15360) (b : Fin 4) : EReal := scale fun l => a.v f (col b l)
/-- The normalised update in the subspace. -/
def n (f : Fin 15360) (q : Fin 512) : EReal := upd a.b1 a.b2 (a.m f q) (a.v f q)
/-- The weight change, and the new weight. -/
def delta (f : Fin 15360) (d : Fin 6144) : EReal := step (∑ q : Fin 512, a.n f q * a.p d q)
def weight (f : Fin 15360) (d : Fin 6144) : EReal := a.w f d + a.delta f d

end Args

end Cert.Proof.Spec

end
-- ==== Proof.ReferenceOps.lean ====
/- Each payload of the reference's quantised Adam step read at one element, at the ideal instance. -/
module

public import proofs.«01_k».proof.Proof.Spec
public import proofs.«01_k».proof.Proof.Gen.ReferenceIdeal.Skeleton

@[expose] public section

noncomputable section

namespace Cert.Proof.ReferenceOps

open Cert.ReferenceIdeal Cert.ReferenceIdeal.Gen Cert.Proof.Spec Idealize.ShloMosaic

/-- A maximum along the last of three axes, read at the two coordinates left. -/
theorem max_apply {n0 n1 n2 : ℕ} (src : FVec Ideal ⟨3, ![n0, n1, n2]⟩ .f32) (acc : BitVec 32)
    (h : Shape.Reduces ⟨3, ![n0, n1, n2]⟩ [2] ⟨2, ![n0, n1]⟩) (hφ : FKind.Formats .f32)
    (hacc : acc = FKind.maximumf.neutral .f32 hφ) (r : Fin n0) (k : Fin n1) :
    multiReduction .maximumf [2] ⟨2, ![n0, n1]⟩ src acc h hφ hacc (ix2 r k)
      = Finset.fold max (Ideal.ofBits .f32 acc) (fun l : Fin n2 => src (ix3 r k l)) Finset.univ := by
  rw [Ideal.multiReduction_maximumf_single]
  have hl : ∀ l : Fin n2, h.lift (ix2 r k) l = ix3 r k l := fun l => by
    funext a
    apply Fin.ext
    refine (h.lift_val _ _ _).trans ?_
    match a with
    | ⟨0, _⟩ => rfl
    | ⟨1, _⟩ => rfl
    | ⟨2, _⟩ => rfl
  show Finset.fold max _ (fun l : Fin n2 => src (h.lift (ix2 r k) l)) Finset.univ = _
  simp only [hl]
  rfl

/-- The first moments at a row, a block and a lane. -/
theorem mom_apply (g : FVec Ideal S15360x4x128 .f32) (c : IVec S15360x4x128 8) (s : FVec Ideal S15360x4x1 .f32)
    (r : Fin 15360) (k : Fin 4) (l : Fin 128) :
    k0_pay3 (F := Ideal) g c s (ix3 r k l) = mom (c (ix3 r k l)) (s (ix3 r k 0)) (g (ix3 r k l)) := by
  pointwise [k0_pay3, k0_pay2]
  rfl

/-- The second moments at a row, a block and a lane. -/
theorem var_apply (g : FVec Ideal S15360x4x128 .f32) (c : IVec S15360x4x128 8) (s : FVec Ideal S15360x4x1 .f32)
    (r : Fin 15360) (k : Fin 4) (l : Fin 128) :
    k0_pay4 (F := Ideal) g c s (ix3 r k l) = var (c (ix3 r k l)) (s (ix3 r k 0)) (g (ix3 r k l)) := by
  pointwise [k0_pay4, k0_pay2]
  rfl

/-- A block's greatest magnitude, cast to a column. -/
theorem amax_apply (y : FVec Ideal S15360x4x128 .f32) (r : Fin 15360) (k : Fin 4) :
    shapeCast S15360x4x1 (multiReduction .maximumf [2] S15360x4 (absf y) 0xFF800000#32 reduces_S15360x4x128_S15360x4 (.inl rfl) rfl)
      shapeCasts_S15360x4_S15360x4x1 (ix3 r k 0) = amax fun l => y (ix3 r k l) := by
  rw [shapeCast_apply _ _ (ix3 r k 0) (ix2 r k) (by
    rw [Shape.rowMajor_val_three, Shape.rowMajor_val_two]
    show r.val * 4 + k.val = (r.val * 4 + k.val) * 1 + 0
    omega)]
  exact max_apply _ _ _ _ _ r k

/-- The scales as a function of the greatest magnitudes. -/
def scaleOf (z : FVec Ideal S15360x4x1 .f32) : FVec Ideal S15360x4x1 .f32 :=
  select (cmpf .oeq z (broadcast S15360x4x1 (Scalar.ofBits .f32 0x00000000#32 : Ideal .f32)))
    (broadcast S15360x4x1 (Scalar.ofBits .f32 0x3F800000#32 : Ideal .f32))
    (divf z (broadcast S15360x4x1 (Scalar.ofBits .f32 0x42FE0000#32 : Ideal .f32)))

open Classical in
theorem scaleOf_apply (z : FVec Ideal S15360x4x1 .f32) (i : S15360x4x1.Idx) :
    scaleOf z i = if (z i : EReal) = 0 then (1 : EReal) else Ideal.div (z i) (Ideal.ofBits .f32 1123942400#32) := by
  pointwise [scaleOf]

/-- The scales at a row and a block. -/
theorem scale_apply (y : FVec Ideal S15360x4x128 .f32) (r : Fin 15360) (k : Fin 4) :
    k0_pay8 (F := Ideal) y (ix3 r k 0) = scale fun l => y (ix3 r k l) := by
  unfold scale
  rw [← amax_apply y r k]
  exact scaleOf_apply _ _

/-- The first moments' scales are the same function of the first moments. -/
theorem scale_mom (g : FVec Ideal S15360x4x128 .f32) (c : IVec S15360x4x128 8) (s : FVec Ideal S15360x4x1 .f32) :
    k0_pay5 (F := Ideal) g c s = k0_pay8 (k0_pay3 (F := Ideal) g c s) := rfl

/-- The codes as a function of the values and the scales. -/
def codeOf (y : FVec Ideal S15360x4x128 .f32) (z : FVec Ideal S15360x4x1 .f32) : IVec S15360x4x128 8 :=
  fptosi 8 (minimumf (broadcast S15360x4x128 (Scalar.ofBits .f32 0x42FE0000#32 : Ideal .f32))
    (maximumf (broadcast S15360x4x128 (Scalar.ofBits .f32 0xC2FE0000#32 : Ideal .f32))
      (roundeven (divf y (broadcastTo S15360x4x128 z broadcasts_S15360x4x1_S15360x4x128)))))

theorem codeOf_apply (y : FVec Ideal S15360x4x128 .f32) (z : FVec Ideal S15360x4x1 .f32) (r : Fin 15360) (k : Fin 4) (l : Fin 128) :
    codeOf y z (ix3 r k l) = FloatOps.fptosi (F := Ideal) (φ := .f32) 8 (min (Ideal.ofBits .f32 1123942400#32)
      (max (Ideal.ofBits .f32 3271426048#32) (Ideal.liftRound Ideal.roundHalfEven (Ideal.div (y (ix3 r k l)) (z (ix3 r k 0)))))) := by
  pointwise [codeOf]

/-- The codes at a row, a block and a lane. -/
theorem code_apply (y : FVec Ideal S15360x4x128 .f32) (r : Fin 15360) (k : Fin 4) (l : Fin 128) :
    k0_pay9 (F := Ideal) y (ix3 r k l) = code (fun l => y (ix3 r k l)) l := by
  unfold code
  rw [← scale_apply y r k]
  exact codeOf_apply _ _ r k l

/-- The first moments' codes are the same function of the first moments. -/
theorem code_mom (g : FVec Ideal S15360x4x128 .f32) (c : IVec S15360x4x128 8) (s : FVec Ideal S15360x4x1 .f32) :
    k0_pay7 (F := Ideal) (k0_pay3 (F := Ideal) g c s) (k0_pay6 (F := Ideal) g c s) = k0_pay9 (k0_pay3 (F := Ideal) g c s) := rfl

/-- The normalised update at a row, a block and a lane. -/
theorem upd_apply (a b : FVec Ideal S1x1x1 .f32) (g h : FVec Ideal S15360x4x128 .f32) (r : Fin 15360) (k : Fin 4) (l : Fin 128) :
    k0_pay1 (F := Ideal) h (k0_pay10 (F := Ideal) g a) b (ix3 r k l)
      = upd (a (ix3 0 0 0)) (b (ix3 0 0 0)) (g (ix3 r k l)) (h (ix3 r k l)) := by
  pointwise [k0_pay1, k0_pay10]
  rfl

end Cert.Proof.ReferenceOps

end
-- ==== Proof.ReferenceOuts.lean ====
/- What the reference's quantised Adam step stores, read at one element. -/
module

public import proofs.«01_k».proof.Proof.ReferenceOps
public import proofs.«01_k».proof.Proof.Gen.ReferenceIdeal.Frame

@[expose] public section

noncomputable section

namespace Cert.Proof.ReferenceOuts

open Cert.ReferenceIdeal Cert.ReferenceIdeal.Gen Cert.Proof.Spec Cert.Proof.ReferenceOps Idealize.ShloMosaic Idealize.ShloMosaic.TcCoe
open Idealize.ShloMosaic.Pipeline (Dat)
open Idealize.SL.Sem

theorem zero3 : (![0, 0, 0] : Fin 3 → ℕ) = fun _ => 0 := by
  funext a; match a with | ⟨0, _⟩ => rfl | ⟨1, _⟩ => rfl | ⟨2, _⟩ => rfl

/-! ## Each output's buffer after the body, from the seven inputs -/

section Outs

variable (x0 x1 : FVec Ideal S1x1x1 .f32) (x2 : FVec Ideal S15360x4x128 .f32) (x3 : IVec S15360x4x128 8) (x4 : FVec Ideal S15360x4x1 .f32) (x5 : IVec S15360x4x128 8) (x6 : FVec Ideal S15360x4x1 .f32)

theorem pay11_eq : k0_pay11 (F := Ideal) x0 x1 x2 x3 x4 x5 x6 = k0_pay3 (F := Ideal) x2 x3 x4 := by
  unfold k0_pay11
  rw [View.ld_unit_zero zero3, View.ld_unit_zero zero3, View.ld_unit_zero zero3]
theorem pay12_eq : k0_pay12 (F := Ideal) x0 x1 x2 x3 x4 x5 x6 = k0_pay4 (F := Ideal) x2 x5 x6 := by
  unfold k0_pay12
  rw [View.ld_unit_zero zero3, View.ld_unit_zero zero3, View.ld_unit_zero zero3]

theorem out7_eq : out0_7 (F := Ideal) x0 x1 x2 x3 x4 x5 x6
    = k0_pay1 (F := Ideal) (k0_pay4 (F := Ideal) x2 x5 x6) (k0_pay10 (F := Ideal) (k0_pay3 (F := Ideal) x2 x3 x4) x0) x1 := by
  unfold out0_7
  rw [View.canon_unit_zero zero3, View.ld_unit_zero zero3, View.ld_unit_zero zero3, pay11_eq, pay12_eq]
theorem out8_eq : out0_8 (F := Ideal) x0 x1 x2 x3 x4 x5 x6 = k0_pay9 (F := Ideal) (k0_pay3 (F := Ideal) x2 x3 x4) := by
  unfold out0_8
  rw [View.canon_unit_zero zero3, View.ld_unit_zero zero3, View.ld_unit_zero zero3, View.ld_unit_zero zero3, pay11_eq, code_mom]
theorem out9_eq : out0_9 (F := Ideal) x0 x1 x2 x3 x4 x5 x6 = k0_pay8 (F := Ideal) (k0_pay3 (F := Ideal) x2 x3 x4) := by
  unfold out0_9
  rw [View.canon_unit_zero zero3, View.ld_unit_zero zero3, View.ld_unit_zero zero3, View.ld_unit_zero zero3, scale_mom]
theorem out10_eq : out0_10 (F := Ideal) x0 x1 x2 x3 x4 x5 x6 = k0_pay9 (F := Ideal) (k0_pay4 (F := Ideal) x2 x5 x6) := by
  unfold out0_10
  rw [View.canon_unit_zero zero3, pay12_eq]
theorem out11_eq : out0_11 (F := Ideal) x0 x1 x2 x3 x4 x5 x6 = k0_pay8 (F := Ideal) (k0_pay4 (F := Ideal) x2 x5 x6) := by
  unfold out0_11
  rw [View.canon_unit_zero zero3, pay12_eq]

/-- The moments at a row, a block and a lane. -/
abbrev mom3 (r : Fin 15360) (k : Fin 4) (l : Fin 128) : EReal := mom (x3 (ix3 r k l)) (x4 (ix3 r k 0)) (x2 (ix3 r k l))
abbrev var3 (r : Fin 15360) (k : Fin 4) (l : Fin 128) : EReal := var (x5 (ix3 r k l)) (x6 (ix3 r k 0)) (x2 (ix3 r k l))

theorem out7_apply (r : Fin 15360) (k : Fin 4) (l : Fin 128) : out0_7 (F := Ideal) x0 x1 x2 x3 x4 x5 x6 (ix3 r k l)
    = upd (x0 (ix3 0 0 0)) (x1 (ix3 0 0 0)) (mom3 x2 x3 x4 r k l) (var3 x2 x5 x6 r k l) := by
  rw [out7_eq, upd_apply, ReferenceOps.mom_apply, ReferenceOps.var_apply]
theorem out8_apply (r : Fin 15360) (k : Fin 4) (l : Fin 128) : out0_8 (F := Ideal) x0 x1 x2 x3 x4 x5 x6 (ix3 r k l)
    = code (fun l => mom3 x2 x3 x4 r k l) l := by
  rw [out8_eq, code_apply]
  simp only [ReferenceOps.mom_apply]
theorem out9_apply (r : Fin 15360) (k : Fin 4) : out0_9 (F := Ideal) x0 x1 x2 x3 x4 x5 x6 (ix3 r k 0)
    = scale (fun l => mom3 x2 x3 x4 r k l) := by
  rw [out9_eq, scale_apply]
  simp only [ReferenceOps.mom_apply]
theorem out10_apply (r : Fin 15360) (k : Fin 4) (l : Fin 128) : out0_10 (F := Ideal) x0 x1 x2 x3 x4 x5 x6 (ix3 r k l)
    = code (fun l => var3 x2 x5 x6 r k l) l := by
  rw [out10_eq, code_apply]
  simp only [ReferenceOps.var_apply]
theorem out11_apply (r : Fin 15360) (k : Fin 4) : out0_11 (F := Ideal) x0 x1 x2 x3 x4 x5 x6 (ix3 r k 0)
    = scale (fun l => var3 x2 x5 x6 r k l) := by
  rw [out11_eq, scale_apply]
  simp only [ReferenceOps.var_apply]

end Outs

end Cert.Proof.ReferenceOuts

end
-- ==== Proof.ReferenceRegion.lean ====
/- What the reference's one call leaves in its arrays. -/
module

public import proofs.«01_k».proof.Proof.ReferenceOuts

@[expose] public section

noncomputable section

namespace Cert.Proof.ReferenceRegion

open Cert.ReferenceIdeal Cert.ReferenceIdeal.Gen Cert.Proof.Spec Cert.Proof.ReferenceOps Idealize.ShloMosaic Idealize.ShloMosaic.TcCoe
open Idealize.ShloMosaic.Pipeline (Dat)
open Idealize.SL.Sem

variable (m : (ℓ : Loc nD τ sig) → Buf (Elt Ideal) ℓ) (c : Dev nD)

/-! ## One point, whose blocks are the whole arrays -/

theorem emb0 (t : Fin cfg0.N) (y : S1x1x1.Idx) : ((cfg0.win 0).blk t).view.emb y = y := by
  rw [fin_N0 t]
  funext a; apply Fin.ext
  match a with
  | ⟨0, _⟩ => show win0_0.index t0_0 (0 : Fin 3) * 1 + 1 * (y 0).val = (y 0).val; rw [show win0_0.index t0_0 (0 : Fin 3) = 0 from by decide]; omega
  | ⟨1, _⟩ => show win0_0.index t0_0 (1 : Fin 3) * 1 + 1 * (y 1).val = (y 1).val; rw [show win0_0.index t0_0 (1 : Fin 3) = 0 from by decide]; omega
  | ⟨2, _⟩ => show win0_0.index t0_0 (2 : Fin 3) * 1 + 1 * (y 2).val = (y 2).val; rw [show win0_0.index t0_0 (2 : Fin 3) = 0 from by decide]; omega

theorem emb1 (t : Fin cfg0.N) (y : S1x1x1.Idx) : ((cfg0.win 1).blk t).view.emb y = y := by
  rw [fin_N0 t]
  funext a; apply Fin.ext
  match a with
  | ⟨0, _⟩ => show win0_1.index t0_0 (0 : Fin 3) * 1 + 1 * (y 0).val = (y 0).val; rw [show win0_1.index t0_0 (0 : Fin 3) = 0 from by decide]; omega
  | ⟨1, _⟩ => show win0_1.index t0_0 (1 : Fin 3) * 1 + 1 * (y 1).val = (y 1).val; rw [show win0_1.index t0_0 (1 : Fin 3) = 0 from by decide]; omega
  | ⟨2, _⟩ => show win0_1.index t0_0 (2 : Fin 3) * 1 + 1 * (y 2).val = (y 2).val; rw [show win0_1.index t0_0 (2 : Fin 3) = 0 from by decide]; omega

theorem emb2 (t : Fin cfg0.N) (y : S15360x4x128.Idx) : ((cfg0.win 2).blk t).view.emb y = y := by
  rw [fin_N0 t]
  funext a; apply Fin.ext
  match a with
  | ⟨0, _⟩ => show win0_2.index t0_0 (0 : Fin 3) * 15360 + 1 * (y 0).val = (y 0).val; rw [show win0_2.index t0_0 (0 : Fin 3) = 0 from by decide]; omega
  | ⟨1, _⟩ => show win0_2.index t0_0 (1 : Fin 3) * 4 + 1 * (y 1).val = (y 1).val; rw [show win0_2.index t0_0 (1 : Fin 3) = 0 from by decide]; omega
  | ⟨2, _⟩ => show win0_2.index t0_0 (2 : Fin 3) * 128 + 1 * (y 2).val = (y 2).val; rw [show win0_2.index t0_0 (2 : Fin 3) = 0 from by decide]; omega

theorem emb3 (t : Fin cfg0.N) (y : S15360x4x128.Idx) : ((cfg0.win 3).blk t).view.emb y = y := by
  rw [fin_N0 t]
  funext a; apply Fin.ext
  match a with
  | ⟨0, _⟩ => show win0_3.index t0_0 (0 : Fin 3) * 15360 + 1 * (y 0).val = (y 0).val; rw [show win0_3.index t0_0 (0 : Fin 3) = 0 from by decide]; omega
  | ⟨1, _⟩ => show win0_3.index t0_0 (1 : Fin 3) * 4 + 1 * (y 1).val = (y 1).val; rw [show win0_3.index t0_0 (1 : Fin 3) = 0 from by decide]; omega
  | ⟨2, _⟩ => show win0_3.index t0_0 (2 : Fin 3) * 128 + 1 * (y 2).val = (y 2).val; rw [show win0_3.index t0_0 (2 : Fin 3) = 0 from by decide]; omega

theorem emb4 (t : Fin cfg0.N) (y : S15360x4x1.Idx) : ((cfg0.win 4).blk t).view.emb y = y := by
  rw [fin_N0 t]
  funext a; apply Fin.ext
  match a with
  | ⟨0, _⟩ => show win0_4.index t0_0 (0 : Fin 3) * 15360 + 1 * (y 0).val = (y 0).val; rw [show win0_4.index t0_0 (0 : Fin 3) = 0 from by decide]; omega
  | ⟨1, _⟩ => show win0_4.index t0_0 (1 : Fin 3) * 4 + 1 * (y 1).val = (y 1).val; rw [show win0_4.index t0_0 (1 : Fin 3) = 0 from by decide]; omega
  | ⟨2, _⟩ => show win0_4.index t0_0 (2 : Fin 3) * 1 + 1 * (y 2).val = (y 2).val; rw [show win0_4.index t0_0 (2 : Fin 3) = 0 from by decide]; omega

theorem emb5 (t : Fin cfg0.N) (y : S15360x4x128.Idx) : ((cfg0.win 5).blk t).view.emb y = y := by
  rw [fin_N0 t]
  funext a; apply Fin.ext
  match a with
  | ⟨0, _⟩ => show win0_5.index t0_0 (0 : Fin 3) * 15360 + 1 * (y 0).val = (y 0).val; rw [show win0_5.index t0_0 (0 : Fin 3) = 0 from by decide]; omega
  | ⟨1, _⟩ => show win0_5.index t0_0 (1 : Fin 3) * 4 + 1 * (y 1).val = (y 1).val; rw [show win0_5.index t0_0 (1 : Fin 3) = 0 from by decide]; omega
  | ⟨2, _⟩ => show win0_5.index t0_0 (2 : Fin 3) * 128 + 1 * (y 2).val = (y 2).val; rw [show win0_5.index t0_0 (2 : Fin 3) = 0 from by decide]; omega

theorem emb6 (t : Fin cfg0.N) (y : S15360x4x1.Idx) : ((cfg0.win 6).blk t).view.emb y = y := by
  rw [fin_N0 t]
  funext a; apply Fin.ext
  match a with
  | ⟨0, _⟩ => show win0_6.index t0_0 (0 : Fin 3) * 15360 + 1 * (y 0).val = (y 0).val; rw [show win0_6.index t0_0 (0 : Fin 3) = 0 from by decide]; omega
  | ⟨1, _⟩ => show win0_6.index t0_0 (1 : Fin 3) * 4 + 1 * (y 1).val = (y 1).val; rw [show win0_6.index t0_0 (1 : Fin 3) = 0 from by decide]; omega
  | ⟨2, _⟩ => show win0_6.index t0_0 (2 : Fin 3) * 1 + 1 * (y 2).val = (y 2).val; rw [show win0_6.index t0_0 (2 : Fin 3) = 0 from by decide]; omega

theorem emb7 (t : Fin cfg0.N) (y : S15360x4x128.Idx) : ((cfg0.win 7).blk t).view.emb y = y := by
  rw [fin_N0 t]
  funext a; apply Fin.ext
  match a with
  | ⟨0, _⟩ => show win0_7.index t0_0 (0 : Fin 3) * 15360 + 1 * (y 0).val = (y 0).val; rw [show win0_7.index t0_0 (0 : Fin 3) = 0 from by decide]; omega
  | ⟨1, _⟩ => show win0_7.index t0_0 (1 : Fin 3) * 4 + 1 * (y 1).val = (y 1).val; rw [show win0_7.index t0_0 (1 : Fin 3) = 0 from by decide]; omega
  | ⟨2, _⟩ => show win0_7.index t0_0 (2 : Fin 3) * 128 + 1 * (y 2).val = (y 2).val; rw [show win0_7.index t0_0 (2 : Fin 3) = 0 from by decide]; omega

theorem emb8 (t : Fin cfg0.N) (y : S15360x4x128.Idx) : ((cfg0.win 8).blk t).view.emb y = y := by
  rw [fin_N0 t]
  funext a; apply Fin.ext
  match a with
  | ⟨0, _⟩ => show win0_8.index t0_0 (0 : Fin 3) * 15360 + 1 * (y 0).val = (y 0).val; rw [show win0_8.index t0_0 (0 : Fin 3) = 0 from by decide]; omega
  | ⟨1, _⟩ => show win0_8.index t0_0 (1 : Fin 3) * 4 + 1 * (y 1).val = (y 1).val; rw [show win0_8.index t0_0 (1 : Fin 3) = 0 from by decide]; omega
  | ⟨2, _⟩ => show win0_8.index t0_0 (2 : Fin 3) * 128 + 1 * (y 2).val = (y 2).val; rw [show win0_8.index t0_0 (2 : Fin 3) = 0 from by decide]; omega

theorem emb9 (t : Fin cfg0.N) (y : S15360x4x1.Idx) : ((cfg0.win 9).blk t).view.emb y = y := by
  rw [fin_N0 t]
  funext a; apply Fin.ext
  match a with
  | ⟨0, _⟩ => show win0_9.index t0_0 (0 : Fin 3) * 15360 + 1 * (y 0).val = (y 0).val; rw [show win0_9.index t0_0 (0 : Fin 3) = 0 from by decide]; omega
  | ⟨1, _⟩ => show win0_9.index t0_0 (1 : Fin 3) * 4 + 1 * (y 1).val = (y 1).val; rw [show win0_9.index t0_0 (1 : Fin 3) = 0 from by decide]; omega
  | ⟨2, _⟩ => show win0_9.index t0_0 (2 : Fin 3) * 1 + 1 * (y 2).val = (y 2).val; rw [show win0_9.index t0_0 (2 : Fin 3) = 0 from by decide]; omega

theorem emb10 (t : Fin cfg0.N) (y : S15360x4x128.Idx) : ((cfg0.win 10).blk t).view.emb y = y := by
  rw [fin_N0 t]
  funext a; apply Fin.ext
  match a with
  | ⟨0, _⟩ => show win0_10.index t0_0 (0 : Fin 3) * 15360 + 1 * (y 0).val = (y 0).val; rw [show win0_10.index t0_0 (0 : Fin 3) = 0 from by decide]; omega
  | ⟨1, _⟩ => show win0_10.index t0_0 (1 : Fin 3) * 4 + 1 * (y 1).val = (y 1).val; rw [show win0_10.index t0_0 (1 : Fin 3) = 0 from by decide]; omega
  | ⟨2, _⟩ => show win0_10.index t0_0 (2 : Fin 3) * 128 + 1 * (y 2).val = (y 2).val; rw [show win0_10.index t0_0 (2 : Fin 3) = 0 from by decide]; omega

theorem emb11 (t : Fin cfg0.N) (y : S15360x4x1.Idx) : ((cfg0.win 11).blk t).view.emb y = y := by
  rw [fin_N0 t]
  funext a; apply Fin.ext
  match a with
  | ⟨0, _⟩ => show win0_11.index t0_0 (0 : Fin 3) * 15360 + 1 * (y 0).val = (y 0).val; rw [show win0_11.index t0_0 (0 : Fin 3) = 0 from by decide]; omega
  | ⟨1, _⟩ => show win0_11.index t0_0 (1 : Fin 3) * 4 + 1 * (y 1).val = (y 1).val; rw [show win0_11.index t0_0 (1 : Fin 3) = 0 from by decide]; omega
  | ⟨2, _⟩ => show win0_11.index t0_0 (2 : Fin 3) * 1 + 1 * (y 2).val = (y 2).val; rw [show win0_11.index t0_0 (2 : Fin 3) = 0 from by decide]; omega

theorem blk0 (t : Fin cfg0.N) : iblk (F := Ideal) m c 0 t = V m c main_v8 :=
  funext fun y => congrArg (V m c main_v8) (emb0 t y)
theorem blk1 (t : Fin cfg0.N) : iblk (F := Ideal) m c 1 t = V m c main_v9 :=
  funext fun y => congrArg (V m c main_v9) (emb1 t y)
theorem blk2 (t : Fin cfg0.N) : iblk (F := Ideal) m c 2 t = V m c main_v10 :=
  funext fun y => congrArg (V m c main_v10) (emb2 t y)
theorem blk3 (t : Fin cfg0.N) : iblk (F := Ideal) m c 3 t = V m c main_v11 :=
  funext fun y => congrArg (V m c main_v11) (emb3 t y)
theorem blk4 (t : Fin cfg0.N) : iblk (F := Ideal) m c 4 t = V m c main_v12 :=
  funext fun y => congrArg (V m c main_v12) (emb4 t y)
theorem blk5 (t : Fin cfg0.N) : iblk (F := Ideal) m c 5 t = V m c main_v13 :=
  funext fun y => congrArg (V m c main_v13) (emb5 t y)
theorem blk6 (t : Fin cfg0.N) : iblk (F := Ideal) m c 6 t = V m c main_v14 :=
  funext fun y => congrArg (V m c main_v14) (emb6 t y)

/-- Output 0: its one block is the array. -/
theorem flushed7 (t : Fin cfg0.N) : (dats (F := Ideal) m 0 c).flushed 7 t
    = ((cfg0.win 7).blk t).view.read (Elt Ideal) (out0_7 (F := Ideal) (V m c main_v8) (V m c main_v9) (V m c main_v10) (V m c main_v11) (V m c main_v12) (V m c main_v13) (V m c main_v14)) := by
  show (cfg0.win 7).cut (grid0.coords t) ((dats (F := Ideal) m 0 c).after 7 t) = _
  rw [after0_7]
  rw [blk0, blk1, blk2, blk3, blk4, blk5, blk6]
  generalize out0_7 (F := Ideal) (V m c main_v8) (V m c main_v9) (V m c main_v10) (V m c main_v11) (V m c main_v12) (V m c main_v13) (V m c main_v14) = z
  funext (y : S15360x4x128.Idx)
  exact (congrArg z (emb7 t y)).symm

theorem cover7 (y : S15360x4x128.Idx) : ∃ t : Fin cfg0.N, (cfg0.win 7).flush t = true ∧ y ∈ ((cfg0.win 7).blk t).view.set := by
  refine ⟨t0_0, by decide, ?_⟩
  rw [← emb7 t0_0 y]
  exact ((cfg0.win 7).blk t0_0).view.emb_mem_set y

theorem final7 : (dats (F := Ideal) m 0 c).arrAt 7 cfg0.N = out0_7 (F := Ideal) (V m c main_v8) (V m c main_v9) (V m c main_v10) (V m c main_v11) (V m c main_v12) (V m c main_v13) (V m c main_v14) :=
  (dats (F := Ideal) m 0 c).arrAt_eq_of_cover 7 _ (fun t _ => flushed7 m c t) (cover7)

/-- Output 1: its one block is the array. -/
theorem flushed8 (t : Fin cfg0.N) : (dats (F := Ideal) m 0 c).flushed 8 t
    = ((cfg0.win 8).blk t).view.read (Elt Ideal) (out0_8 (F := Ideal) (V m c main_v8) (V m c main_v9) (V m c main_v10) (V m c main_v11) (V m c main_v12) (V m c main_v13) (V m c main_v14)) := by
  show (cfg0.win 8).cut (grid0.coords t) ((dats (F := Ideal) m 0 c).after 8 t) = _
  rw [after0_8]
  rw [blk0, blk1, blk2, blk3, blk4, blk5, blk6]
  generalize out0_8 (F := Ideal) (V m c main_v8) (V m c main_v9) (V m c main_v10) (V m c main_v11) (V m c main_v12) (V m c main_v13) (V m c main_v14) = z
  funext (y : S15360x4x128.Idx)
  exact (congrArg z (emb8 t y)).symm

theorem cover8 (y : S15360x4x128.Idx) : ∃ t : Fin cfg0.N, (cfg0.win 8).flush t = true ∧ y ∈ ((cfg0.win 8).blk t).view.set := by
  refine ⟨t0_0, by decide, ?_⟩
  rw [← emb8 t0_0 y]
  exact ((cfg0.win 8).blk t0_0).view.emb_mem_set y

theorem final8 : (dats (F := Ideal) m 0 c).arrAt 8 cfg0.N = out0_8 (F := Ideal) (V m c main_v8) (V m c main_v9) (V m c main_v10) (V m c main_v11) (V m c main_v12) (V m c main_v13) (V m c main_v14) :=
  (dats (F := Ideal) m 0 c).arrAt_eq_of_cover 8 _ (fun t _ => flushed8 m c t) (cover8)

/-- Output 2: its one block is the array. -/
theorem flushed9 (t : Fin cfg0.N) : (dats (F := Ideal) m 0 c).flushed 9 t
    = ((cfg0.win 9).blk t).view.read (Elt Ideal) (out0_9 (F := Ideal) (V m c main_v8) (V m c main_v9) (V m c main_v10) (V m c main_v11) (V m c main_v12) (V m c main_v13) (V m c main_v14)) := by
  show (cfg0.win 9).cut (grid0.coords t) ((dats (F := Ideal) m 0 c).after 9 t) = _
  rw [after0_9]
  rw [blk0, blk1, blk2, blk3, blk4, blk5, blk6]
  generalize out0_9 (F := Ideal) (V m c main_v8) (V m c main_v9) (V m c main_v10) (V m c main_v11) (V m c main_v12) (V m c main_v13) (V m c main_v14) = z
  funext (y : S15360x4x1.Idx)
  exact (congrArg z (emb9 t y)).symm

theorem cover9 (y : S15360x4x1.Idx) : ∃ t : Fin cfg0.N, (cfg0.win 9).flush t = true ∧ y ∈ ((cfg0.win 9).blk t).view.set := by
  refine ⟨t0_0, by decide, ?_⟩
  rw [← emb9 t0_0 y]
  exact ((cfg0.win 9).blk t0_0).view.emb_mem_set y

theorem final9 : (dats (F := Ideal) m 0 c).arrAt 9 cfg0.N = out0_9 (F := Ideal) (V m c main_v8) (V m c main_v9) (V m c main_v10) (V m c main_v11) (V m c main_v12) (V m c main_v13) (V m c main_v14) :=
  (dats (F := Ideal) m 0 c).arrAt_eq_of_cover 9 _ (fun t _ => flushed9 m c t) (cover9)

/-- Output 3: its one block is the array. -/
theorem flushed10 (t : Fin cfg0.N) : (dats (F := Ideal) m 0 c).flushed 10 t
    = ((cfg0.win 10).blk t).view.read (Elt Ideal) (out0_10 (F := Ideal) (V m c main_v8) (V m c main_v9) (V m c main_v10) (V m c main_v11) (V m c main_v12) (V m c main_v13) (V m c main_v14)) := by
  show (cfg0.win 10).cut (grid0.coords t) ((dats (F := Ideal) m 0 c).after 10 t) = _
  rw [after0_10]
  rw [blk0, blk1, blk2, blk3, blk4, blk5, blk6]
  generalize out0_10 (F := Ideal) (V m c main_v8) (V m c main_v9) (V m c main_v10) (V m c main_v11) (V m c main_v12) (V m c main_v13) (V m c main_v14) = z
  funext (y : S15360x4x128.Idx)
  exact (congrArg z (emb10 t y)).symm

theorem cover10 (y : S15360x4x128.Idx) : ∃ t : Fin cfg0.N, (cfg0.win 10).flush t = true ∧ y ∈ ((cfg0.win 10).blk t).view.set := by
  refine ⟨t0_0, by decide, ?_⟩
  rw [← emb10 t0_0 y]
  exact ((cfg0.win 10).blk t0_0).view.emb_mem_set y

theorem final10 : (dats (F := Ideal) m 0 c).arrAt 10 cfg0.N = out0_10 (F := Ideal) (V m c main_v8) (V m c main_v9) (V m c main_v10) (V m c main_v11) (V m c main_v12) (V m c main_v13) (V m c main_v14) :=
  (dats (F := Ideal) m 0 c).arrAt_eq_of_cover 10 _ (fun t _ => flushed10 m c t) (cover10)

/-- Output 4: its one block is the array. -/
theorem flushed11 (t : Fin cfg0.N) : (dats (F := Ideal) m 0 c).flushed 11 t
    = ((cfg0.win 11).blk t).view.read (Elt Ideal) (out0_11 (F := Ideal) (V m c main_v8) (V m c main_v9) (V m c main_v10) (V m c main_v11) (V m c main_v12) (V m c main_v13) (V m c main_v14)) := by
  show (cfg0.win 11).cut (grid0.coords t) ((dats (F := Ideal) m 0 c).after 11 t) = _
  rw [after0_11]
  rw [blk0, blk1, blk2, blk3, blk4, blk5, blk6]
  generalize out0_11 (F := Ideal) (V m c main_v8) (V m c main_v9) (V m c main_v10) (V m c main_v11) (V m c main_v12) (V m c main_v13) (V m c main_v14) = z
  funext (y : S15360x4x1.Idx)
  exact (congrArg z (emb11 t y)).symm

theorem cover11 (y : S15360x4x1.Idx) : ∃ t : Fin cfg0.N, (cfg0.win 11).flush t = true ∧ y ∈ ((cfg0.win 11).blk t).view.set := by
  refine ⟨t0_0, by decide, ?_⟩
  rw [← emb11 t0_0 y]
  exact ((cfg0.win 11).blk t0_0).view.emb_mem_set y

theorem final11 : (dats (F := Ideal) m 0 c).arrAt 11 cfg0.N = out0_11 (F := Ideal) (V m c main_v8) (V m c main_v9) (V m c main_v10) (V m c main_v11) (V m c main_v12) (V m c main_v13) (V m c main_v14) :=
  (dats (F := Ideal) m 0 c).arrAt_eq_of_cover 11 _ (fun t _ => flushed11 m c t) (cover11)

end Cert.Proof.ReferenceRegion

end
-- ==== Proof.KernelOps.lean ====
/- Each payload of the two kernel bodies read at one element, at the ideal instance. -/
module

public import proofs.«01_k».proof.Proof.Spec
public import proofs.«01_k».proof.Proof.Gen.Kernel.Skeleton

@[expose] public section

noncomputable section

namespace Cert.Proof.KernelOps

open Cert.Kernel Cert.Kernel.Gen Cert.Proof.Spec Idealize.ShloMosaic

/-- The first moments' payload at a row and a lane. -/
theorem mom_apply (g : FVec Ideal S1024x128 .f32) (c : IVec S1024x128 8) (s : FVec Ideal S1024x1 .f32) (r : Fin 1024) (l : Fin 128) :
    k0_pay23 (F := Ideal) g c s (ix2 r l) = mom (c (ix2 r l)) (s (ix2 r 0)) (g (ix2 r l)) := by
  pointwise [k0_pay23]
  rfl

/-- The second moments' payload at a row and a lane. -/
theorem var_apply (g : FVec Ideal S1024x128 .f32) (c : IVec S1024x128 8) (s : FVec Ideal S1024x1 .f32) (r : Fin 1024) (l : Fin 128) :
    k0_pay24 (F := Ideal) g c s (ix2 r l) = var (c (ix2 r l)) (s (ix2 r 0)) (g (ix2 r l)) := by
  pointwise [k0_pay24]
  rfl

/-- The scales' payload at a row. -/
theorem scale_apply (y : FVec Ideal S1024x128 .f32) (r : Fin 1024) :
    k0_pay28 (F := Ideal) y (ix2 r 0) = scale fun l => y (ix2 r l) := by
  pointwise [k0_pay28]
  unfold scale amax
  congr 1

/-- The codes' payload at a row and a lane. -/
theorem code_apply (y : FVec Ideal S1024x128 .f32) (r : Fin 1024) (l : Fin 128) :
    k0_pay29 (F := Ideal) y (ix2 r l) = code (fun l => y (ix2 r l)) l := by
  pointwise [k0_pay29]
  rw [scale_apply]
  rfl

/-- The normalised update's payload at a row and a lane. -/
theorem upd_apply (a b : EReal) (g h : FVec Ideal S1024x128 .f32) (r : Fin 1024) (l : Fin 128) :
    k0_pay30 (F := Ideal) a b g h (ix2 r l) = upd a b (g (ix2 r l)) (h (ix2 r l)) := by
  pointwise [k0_pay30]
  rfl

/-- One accumulation step at a row and a column. -/
theorem acc_apply (x : FVec Ideal S1024x4096 .bf16) (y : FVec Ideal S4096x512 .bf16) (a : FVec Ideal S1024x512 .f32)
    (p : FVec Ideal S512x512 .bf16) (r : Fin 1024) (l : Fin 512) :
    k0_pay2 (F := Ideal) x y a p (ix2 r l)
      = (a (ix2 r l) + ∑ d : Fin 512, (∑ s : Fin 4096, x (ix2 r s) * y (ix2 s d)) * p (ix2 d l) : EReal) := by
  pointwise [k0_pay2]

/-- The zero accumulator. -/
theorem zero_apply (r : Fin 1024) (l : Fin 512) : k0_pay1 (F := Ideal) k0_pay22 (ix2 r l) = (0 : EReal) := by
  pointwise [k0_pay1, k0_pay22]

/-- One transposed slice at a row and a column. -/
theorem transpose_apply (x : FVec Ideal S256x1024 .bf16) (r : Fin 1024) (l : Fin 256) :
    k0_pay5 (F := Ideal) x (ix2 r l) = x (ix2 l r) := by
  pointwise [k0_pay5]

/-- The delta's payload at a row and a column. -/
theorem delta_apply (n : FVec Ideal S1024x512 .bf16) (p : FVec Ideal S512x512 .bf16) (r : Fin 1024) (l : Fin 512) :
    k1_pay1 (F := Ideal) n p (ix2 r l) = step (∑ k : Fin 512, (n (ix2 r k) * p (ix2 l k) : EReal)) := by
  pointwise [k1_pay1]
  rfl

/-- The new weight's payload at a row and a column. -/
theorem weight_apply (n : FVec Ideal S1024x512 .bf16) (p : FVec Ideal S512x512 .bf16) (w : FVec Ideal S1024x512 .bf16)
    (r : Fin 1024) (l : Fin 512) :
    k1_pay2 (F := Ideal) n p w (ix2 r l) = (w (ix2 r l) + step (∑ k : Fin 512, (n (ix2 r k) * p (ix2 l k) : EReal)) : EReal) := by
  pointwise [k1_pay2, k1_pay1]
  rfl

end Cert.Proof.KernelOps

end
-- ==== Proof.GradBlock.lean ====
/- What one grid point of the first call computes, read at one element. -/
module

public import proofs.«01_k».proof.Proof.KernelOps
public import proofs.«01_k».proof.Proof.GradLast
public import proofs.«01_k».proof.Proof.GradFirst

@[expose] public section

noncomputable section

namespace Cert.Proof.GradBlock

open Cert.Kernel Cert.Kernel.Gen Cert.Proof.Spec Cert.Proof.KernelOps Idealize.ShloMosaic Idealize.ShloMosaic.TcCoe
open Idealize.ShloMosaic.Pipeline (Dat)

/-! ## The transposed gradient block -/

/-- One transposed slice is the block read with its coordinates exchanged. -/
theorem piece_dyt (x1 : FVec Ideal S4096x1024 .bf16) (o : ℕ) (h1 : ∀ a, (![o, 0] : Fin 2 → ℕ) a + S256x1024.size a ≤ S4096x1024.size a)
    (h2 : ∀ a, (![0, o] : Fin 2 → ℕ) a + S1024x256.size a ≤ S1024x4096.size a) (x : S1024x256.Idx) :
    k0_pay5 (F := Ideal) (View.ld (Val := Elt Ideal) (e' := .bf16) x1 (Rect.unit (s := S4096x1024) ![o, 0] S256x1024.size h1)) x
      = x1 (ix2 ((Rect.unit (s := S1024x4096) ![0, o] S1024x256.size h2).emb x 1) ((Rect.unit (s := S1024x4096) ![0, o] S1024x256.size h2).emb x 0)) := by
  obtain ⟨r, l, rfl⟩ : ∃ (r : Fin 1024) (l : Fin 256), x = ix2 r l := ⟨x 0, x 1, eq_ix2 x⟩
  rw [KernelOps.transpose_apply]
  refine congrArg x1 ?_
  funext a; apply Fin.ext
  match a with
  | ⟨0, _⟩ => rfl
  | ⟨1, _⟩ => rfl

/-- The scratch holds the gradient block transposed. -/
theorem dyt_apply (x1 : FVec Ideal S4096x1024 .bf16) (f : Fin 1024) (s : Fin 4096) :
    dytOf (F := Ideal) x1 (ix2 f s) = x1 (ix2 s f) := by
  unfold dytOf
  exact View.canon_apply_of_pieces (Val := Elt Ideal) (e := .bf16) (fun i : S1024x4096.Idx => x1 (ix2 (i 1) (i 0))) _
    (List.forall_mem_cons.2 ⟨piece_dyt x1 3840 inb_S4096x1024_S256x1024_3840_0 inb_S1024x4096_S1024x256_0_3840, List.forall_mem_cons.2 ⟨piece_dyt x1 3584 inb_S4096x1024_S256x1024_3584_0 inb_S1024x4096_S1024x256_0_3584, List.forall_mem_cons.2 ⟨piece_dyt x1 3328 inb_S4096x1024_S256x1024_3328_0 inb_S1024x4096_S1024x256_0_3328, List.forall_mem_cons.2 ⟨piece_dyt x1 3072 inb_S4096x1024_S256x1024_3072_0 inb_S1024x4096_S1024x256_0_3072, List.forall_mem_cons.2 ⟨piece_dyt x1 2816 inb_S4096x1024_S256x1024_2816_0 inb_S1024x4096_S1024x256_0_2816, List.forall_mem_cons.2 ⟨piece_dyt x1 2560 inb_S4096x1024_S256x1024_2560_0 inb_S1024x4096_S1024x256_0_2560, List.forall_mem_cons.2 ⟨piece_dyt x1 2304 inb_S4096x1024_S256x1024_2304_0 inb_S1024x4096_S1024x256_0_2304, List.forall_mem_cons.2 ⟨piece_dyt x1 2048 inb_S4096x1024_S256x1024_2048_0 inb_S1024x4096_S1024x256_0_2048, List.forall_mem_cons.2 ⟨piece_dyt x1 1792 inb_S4096x1024_S256x1024_1792_0 inb_S1024x4096_S1024x256_0_1792, List.forall_mem_cons.2 ⟨piece_dyt x1 1536 inb_S4096x1024_S256x1024_1536_0 inb_S1024x4096_S1024x256_0_1536, List.forall_mem_cons.2 ⟨piece_dyt x1 1280 inb_S4096x1024_S256x1024_1280_0 inb_S1024x4096_S1024x256_0_1280, List.forall_mem_cons.2 ⟨piece_dyt x1 1024 inb_S4096x1024_S256x1024_1024_0 inb_S1024x4096_S1024x256_0_1024, List.forall_mem_cons.2 ⟨piece_dyt x1 768 inb_S4096x1024_S256x1024_768_0 inb_S1024x4096_S1024x256_0_768, List.forall_mem_cons.2 ⟨piece_dyt x1 512 inb_S4096x1024_S256x1024_512_0 inb_S1024x4096_S1024x256_0_512, List.forall_mem_cons.2 ⟨piece_dyt x1 256 inb_S4096x1024_S256x1024_256_0 inb_S1024x4096_S1024x256_0_256, List.forall_mem_cons.2 ⟨piece_dyt x1 0 inb_S4096x1024_S256x1024_0_0 inb_S1024x4096_S1024x256_0_0, List.forall_mem_nil _⟩⟩⟩⟩⟩⟩⟩⟩⟩⟩⟩⟩⟩⟩⟩⟩) _
    (cover_dyt _ _ _ _ _ _ _ _ _ _ _ _ _ _ _ _ _)

/-! ## Column block `k` of a buffer -/

/-- A column block's load. -/
theorem ld_col {e : EltTy} (z : Vec Ideal S1024x512 e) (k : Fin 4)
    (h : ∀ a, (![0, 128 * k.val] : Fin 2 → ℕ) a + S1024x128.size a ≤ S1024x512.size a) (r : Fin 1024) (l : Fin 128) :
    View.ld (Val := Elt Ideal) (e' := e) z (Rect.unit (s := S1024x512) ![0, 128 * k.val] S1024x128.size h) (ix2 r l) = z (ix2 r (col k l)) := by
  refine congrArg z ?_
  funext a; apply Fin.ext
  match a with
  | ⟨0, _⟩ => show 0 + 1 * r.val = r.val; omega
  | ⟨1, _⟩ => show 128 * k.val + 1 * l.val = 128 * k.val + l.val; omega

/-- A scale column's load. -/
theorem ld_scale (z : FVec Ideal S1024x4 .f32) (k : Fin 4)
    (h : ∀ a, (![0, k.val] : Fin 2 → ℕ) a + S1024x1.size a ≤ S1024x4.size a) (r : Fin 1024) :
    View.ld (Val := Elt Ideal) (e' := .f32) z (Rect.unit (s := S1024x4) ![0, k.val] S1024x1.size h) (ix2 r 0) = z (ix2 r k) := by
  refine congrArg z ?_
  funext a; apply Fin.ext
  match a with
  | ⟨0, _⟩ => show 0 + 1 * r.val = r.val; omega
  | ⟨1, _⟩ => show k.val + 1 * 0 = k.val; omega

/-- A column block's place in its buffer. -/
theorem emb_col (k : Fin 4) (h : ∀ a, (![0, 128 * k.val] : Fin 2 → ℕ) a + S1024x128.size a ≤ S1024x512.size a) (r : Fin 1024) (l : Fin 128) :
    (Rect.unit (s := S1024x512) ![0, 128 * k.val] S1024x128.size h).emb (ix2 r l) = ix2 r (col k l) := by
  funext a; apply Fin.ext
  match a with
  | ⟨0, _⟩ => show 0 + 1 * r.val = r.val; omega
  | ⟨1, _⟩ => show 128 * k.val + 1 * l.val = 128 * k.val + l.val; omega

/-- A scale column's place in its buffer. -/
theorem emb_scale (k : Fin 4) (h : ∀ a, (![0, k.val] : Fin 2 → ℕ) a + S1024x1.size a ≤ S1024x4.size a) (r : Fin 1024) :
    (Rect.unit (s := S1024x4) ![0, k.val] S1024x1.size h).emb (ix2 r 0) = ix2 r k := by
  funext a; apply Fin.ext
  match a with
  | ⟨0, _⟩ => show 0 + 1 * r.val = r.val; omega
  | ⟨1, _⟩ => show k.val + 1 * 0 = k.val; omega

/-! ## The outputs' buffers after a row's last point -/

/-- The new first moments of a row block. -/
def mAt (acc : FVec Ideal S1024x512 .f32) (x4 : IVec S1024x512 8) (x5 : FVec Ideal S1024x4 .f32) (r : Fin 1024) (q : Fin 512) : EReal :=
  mom (x4 (ix2 r q)) (x5 (ix2 r (blk q))) (acc (ix2 r q))
/-- The new second moments of a row block. -/
def vAt (acc : FVec Ideal S1024x512 .f32) (x6 : IVec S1024x512 8) (x7 : FVec Ideal S1024x4 .f32) (r : Fin 1024) (q : Fin 512) : EReal :=
  var (x6 (ix2 r q)) (x7 (ix2 r (blk q))) (acc (ix2 r q))

section Block

variable (acc : FVec Ideal S1024x512 .f32) (xc : IVec S1024x512 8) (xs : FVec Ideal S1024x4 .f32) (k : Fin 4)
  (h : ∀ a, (![0, 128 * k.val] : Fin 2 → ℕ) a + S1024x128.size a ≤ S1024x512.size a)
  (h' : ∀ a, (![0, k.val] : Fin 2 → ℕ) a + S1024x1.size a ≤ S1024x4.size a)

/-- Column block `k`'s new first moments, as the body computes them. -/
abbrev mBlk : FVec Ideal S1024x128 .f32 :=
  mNew (F := Ideal) (View.ld (Val := Elt Ideal) (e' := .f32) acc (Rect.unit (s := S1024x512) ![0, 128 * k.val] S1024x128.size h))
    (View.ld (Val := Elt Ideal) (e' := .i8) xc (Rect.unit (s := S1024x512) ![0, 128 * k.val] S1024x128.size h))
    (View.ld (Val := Elt Ideal) (e' := .f32) xs (Rect.unit (s := S1024x4) ![0, k.val] S1024x1.size h'))
/-- Column block `k`'s new second moments, as the body computes them. -/
abbrev vBlk : FVec Ideal S1024x128 .f32 :=
  vNew (F := Ideal) (View.ld (Val := Elt Ideal) (e' := .f32) acc (Rect.unit (s := S1024x512) ![0, 128 * k.val] S1024x128.size h))
    (View.ld (Val := Elt Ideal) (e' := .i8) xc (Rect.unit (s := S1024x512) ![0, 128 * k.val] S1024x128.size h))
    (View.ld (Val := Elt Ideal) (e' := .f32) xs (Rect.unit (s := S1024x4) ![0, k.val] S1024x1.size h'))

theorem mBlk_apply (r : Fin 1024) (l : Fin 128) : mBlk acc xc xs k h h' (ix2 r l) = mAt acc xc xs r (col k l) := by
  refine (mom_apply _ _ _ r l).trans ?_
  rw [ld_col, ld_col, ld_scale]
  unfold mAt; rw [blk_col]

theorem vBlk_apply (r : Fin 1024) (l : Fin 128) : vBlk acc xc xs k h h' (ix2 r l) = vAt acc xc xs r (col k l) := by
  refine (var_apply _ _ _ r l).trans ?_
  rw [ld_col, ld_col, ld_scale]
  unfold vAt; rw [blk_col]

theorem piece_mCode (x : S1024x128.Idx) :
    qCode (F := Ideal) (mBlk acc xc xs k h h') x
      = (fun i : S1024x512.Idx => code (fun l => mAt acc xc xs (i 0) (col (blk (i 1)) l)) (lane (i 1))) ((Rect.unit (s := S1024x512) ![0, 128 * k.val] S1024x128.size h).emb x) := by
  obtain ⟨r, l, rfl⟩ : ∃ (r : Fin 1024) (l : Fin 128), x = ix2 r l := ⟨x 0, x 1, eq_ix2 x⟩
  rw [emb_col]
  refine (code_apply _ r l).trans ?_
  simp only [mBlk_apply, ix2_0, ix2_1, blk_col, lane_col]

theorem piece_mScale (x : S1024x1.Idx) :
    qScale (F := Ideal) (mBlk acc xc xs k h h') x
      = (fun i : S1024x4.Idx => scale (fun l => mAt acc xc xs (i 0) (col (i 1) l))) ((Rect.unit (s := S1024x4) ![0, k.val] S1024x1.size h').emb x) := by
  obtain ⟨r, rfl⟩ : ∃ (r : Fin 1024), x = ix2 r 0 := ⟨x 0, (eq_ix2 x).trans (congrArg (ix2 (x 0)) (Fin.eq_zero _))⟩
  rw [emb_scale]
  refine (scale_apply _ r).trans ?_
  simp only [mBlk_apply, ix2_0, ix2_1]

theorem piece_vCode (x : S1024x128.Idx) :
    qCode (F := Ideal) (vBlk acc xc xs k h h') x
      = (fun i : S1024x512.Idx => code (fun l => vAt acc xc xs (i 0) (col (blk (i 1)) l)) (lane (i 1))) ((Rect.unit (s := S1024x512) ![0, 128 * k.val] S1024x128.size h).emb x) := by
  obtain ⟨r, l, rfl⟩ : ∃ (r : Fin 1024) (l : Fin 128), x = ix2 r l := ⟨x 0, x 1, eq_ix2 x⟩
  rw [emb_col]
  refine (code_apply _ r l).trans ?_
  simp only [vBlk_apply, ix2_0, ix2_1, blk_col, lane_col]

theorem piece_vScale (x : S1024x1.Idx) :
    qScale (F := Ideal) (vBlk acc xc xs k h h') x
      = (fun i : S1024x4.Idx => scale (fun l => vAt acc xc xs (i 0) (col (i 1) l))) ((Rect.unit (s := S1024x4) ![0, k.val] S1024x1.size h').emb x) := by
  obtain ⟨r, rfl⟩ : ∃ (r : Fin 1024), x = ix2 r 0 := ⟨x 0, (eq_ix2 x).trans (congrArg (ix2 (x 0)) (Fin.eq_zero _))⟩
  rw [emb_scale]
  refine (scale_apply _ r).trans ?_
  simp only [vBlk_apply, ix2_0, ix2_1]

theorem piece_n (xc' : IVec S1024x512 8) (xs' : FVec Ideal S1024x4 .f32) (b1 b2 : EReal) (x : S1024x128.Idx) :
    nNew (F := Ideal) b1 b2 (mBlk acc xc xs k h h') (vBlk acc xc' xs' k h h') x
      = (fun i : S1024x512.Idx => upd b1 b2 (mAt acc xc xs (i 0) (i 1)) (vAt acc xc' xs' (i 0) (i 1))) ((Rect.unit (s := S1024x512) ![0, 128 * k.val] S1024x128.size h).emb x) := by
  obtain ⟨r, l, rfl⟩ : ∃ (r : Fin 1024) (l : Fin 128), x = ix2 r l := ⟨x 0, x 1, eq_ix2 x⟩
  rw [emb_col]
  refine (upd_apply _ _ _ _ r l).trans ?_
  simp only [mBlk_apply, vBlk_apply, ix2_0, ix2_1]

end Block

/-! The scale columns again, with the offsets as they are written. -/

section Scale

variable (acc : FVec Ideal S1024x512 .f32) (xc : IVec S1024x512 8) (xs : FVec Ideal S1024x4 .f32) (k : Fin 4) (o o' : ℕ)
  (ho : o = 128 * k.val) (ho' : o' = k.val)
  (h : ∀ a, (![0, o] : Fin 2 → ℕ) a + S1024x128.size a ≤ S1024x512.size a)
  (h' : ∀ a, (![0, o'] : Fin 2 → ℕ) a + S1024x1.size a ≤ S1024x4.size a)

include ho ho'

theorem piece_mScale' (x : S1024x1.Idx) :
    qScale (F := Ideal) (mNew (F := Ideal) (View.ld (Val := Elt Ideal) (e' := .f32) acc (Rect.unit (s := S1024x512) ![0, o] S1024x128.size h))
        (View.ld (Val := Elt Ideal) (e' := .i8) xc (Rect.unit (s := S1024x512) ![0, o] S1024x128.size h))
        (View.ld (Val := Elt Ideal) (e' := .f32) xs (Rect.unit (s := S1024x4) ![0, o'] S1024x1.size h'))) x
      = (fun i : S1024x4.Idx => scale (fun l => mAt acc xc xs (i 0) (col (i 1) l))) ((Rect.unit (s := S1024x4) ![0, o'] S1024x1.size h').emb x) := by
  subst ho ho'
  exact piece_mScale acc xc xs k h h' x

theorem piece_vScale' (x : S1024x1.Idx) :
    qScale (F := Ideal) (vNew (F := Ideal) (View.ld (Val := Elt Ideal) (e' := .f32) acc (Rect.unit (s := S1024x512) ![0, o] S1024x128.size h))
        (View.ld (Val := Elt Ideal) (e' := .i8) xc (Rect.unit (s := S1024x512) ![0, o] S1024x128.size h))
        (View.ld (Val := Elt Ideal) (e' := .f32) xs (Rect.unit (s := S1024x4) ![0, o'] S1024x1.size h'))) x
      = (fun i : S1024x4.Idx => scale (fun l => vAt acc xc xs (i 0) (col (i 1) l))) ((Rect.unit (s := S1024x4) ![0, o'] S1024x1.size h').emb x) := by
  subst ho ho'
  exact piece_vScale acc xc xs k h h' x

end Scale

theorem outMC_apply (acc : FVec Ideal S1024x512 .f32) (xc : IVec S1024x512 8) (xs : FVec Ideal S1024x4 .f32) (r : Fin 1024) (q : Fin 512) :
    outMC (F := Ideal) acc xc xs (ix2 r q) = code (fun l => mAt acc xc xs r (col (blk q) l)) (lane q) := by
  unfold outMC
  exact View.canon_apply_of_pieces (Val := Elt Ideal) (e := .i8) (fun i : S1024x512.Idx => code (fun l => mAt acc xc xs (i 0) (col (blk (i 1)) l)) (lane (i 1))) _
    (List.forall_mem_cons.2 ⟨piece_mCode acc xc xs ⟨3, by decide⟩ inb_S1024x512_S1024x128_0_384 inb_S1024x4_S1024x1_0_3, List.forall_mem_cons.2 ⟨piece_mCode acc xc xs ⟨2, by decide⟩ inb_S1024x512_S1024x128_0_256 inb_S1024x4_S1024x1_0_2, List.forall_mem_cons.2 ⟨piece_mCode acc xc xs ⟨1, by decide⟩ inb_S1024x512_S1024x128_0_128 inb_S1024x4_S1024x1_0_1, List.forall_mem_cons.2 ⟨piece_mCode acc xc xs ⟨0, by decide⟩ inb_S1024x512_S1024x128_0_0 inb_S1024x4_S1024x1_0_0, List.forall_mem_nil _⟩⟩⟩⟩) _ (cover_i8 _ _ _ _ _)

theorem outMS_apply (acc : FVec Ideal S1024x512 .f32) (xc : IVec S1024x512 8) (xs : FVec Ideal S1024x4 .f32) (r : Fin 1024) (b : Fin 4) :
    outMS (F := Ideal) acc xc xs (ix2 r b) = scale fun l => mAt acc xc xs r (col b l) := by
  unfold outMS
  refine View.canon_apply_of_pieces (Val := Elt Ideal) (e := .f32) (fun i : S1024x4.Idx => scale (fun l => mAt acc xc xs (i 0) (col (i 1) l))) _ ?_ _ (cover_scale _ _ _ _ _)
  refine List.forall_mem_cons.2 ⟨?_, List.forall_mem_cons.2 ⟨?_, List.forall_mem_cons.2 ⟨?_, List.forall_mem_cons.2 ⟨?_, List.forall_mem_nil _⟩⟩⟩⟩
  · intro x; have e := piece_mScale' acc xc xs ⟨3, by decide⟩ 384 3 rfl rfl inb_S1024x512_S1024x128_0_384 inb_S1024x4_S1024x1_0_3 x; dsimp only at e ⊢; exact e
  · intro x; have e := piece_mScale' acc xc xs ⟨2, by decide⟩ 256 2 rfl rfl inb_S1024x512_S1024x128_0_256 inb_S1024x4_S1024x1_0_2 x; dsimp only at e ⊢; exact e
  · intro x; have e := piece_mScale' acc xc xs ⟨1, by decide⟩ 128 1 rfl rfl inb_S1024x512_S1024x128_0_128 inb_S1024x4_S1024x1_0_1 x; dsimp only at e ⊢; exact e
  · intro x; have e := piece_mScale' acc xc xs ⟨0, by decide⟩ 0 0 rfl rfl inb_S1024x512_S1024x128_0_0 inb_S1024x4_S1024x1_0_0 x; dsimp only at e ⊢; exact e

theorem outVC_apply (acc : FVec Ideal S1024x512 .f32) (xc : IVec S1024x512 8) (xs : FVec Ideal S1024x4 .f32) (r : Fin 1024) (q : Fin 512) :
    outVC (F := Ideal) acc xc xs (ix2 r q) = code (fun l => vAt acc xc xs r (col (blk q) l)) (lane q) := by
  unfold outVC
  exact View.canon_apply_of_pieces (Val := Elt Ideal) (e := .i8) (fun i : S1024x512.Idx => code (fun l => vAt acc xc xs (i 0) (col (blk (i 1)) l)) (lane (i 1))) _
    (List.forall_mem_cons.2 ⟨piece_vCode acc xc xs ⟨3, by decide⟩ inb_S1024x512_S1024x128_0_384 inb_S1024x4_S1024x1_0_3, List.forall_mem_cons.2 ⟨piece_vCode acc xc xs ⟨2, by decide⟩ inb_S1024x512_S1024x128_0_256 inb_S1024x4_S1024x1_0_2, List.forall_mem_cons.2 ⟨piece_vCode acc xc xs ⟨1, by decide⟩ inb_S1024x512_S1024x128_0_128 inb_S1024x4_S1024x1_0_1, List.forall_mem_cons.2 ⟨piece_vCode acc xc xs ⟨0, by decide⟩ inb_S1024x512_S1024x128_0_0 inb_S1024x4_S1024x1_0_0, List.forall_mem_nil _⟩⟩⟩⟩) _ (cover_i8 _ _ _ _ _)

theorem outVS_apply (acc : FVec Ideal S1024x512 .f32) (xc : IVec S1024x512 8) (xs : FVec Ideal S1024x4 .f32) (r : Fin 1024) (b : Fin 4) :
    outVS (F := Ideal) acc xc xs (ix2 r b) = scale fun l => vAt acc xc xs r (col b l) := by
  unfold outVS
  refine View.canon_apply_of_pieces (Val := Elt Ideal) (e := .f32) (fun i : S1024x4.Idx => scale (fun l => vAt acc xc xs (i 0) (col (i 1) l))) _ ?_ _ (cover_scale _ _ _ _ _)
  refine List.forall_mem_cons.2 ⟨?_, List.forall_mem_cons.2 ⟨?_, List.forall_mem_cons.2 ⟨?_, List.forall_mem_cons.2 ⟨?_, List.forall_mem_nil _⟩⟩⟩⟩
  · intro x; have e := piece_vScale' acc xc xs ⟨3, by decide⟩ 384 3 rfl rfl inb_S1024x512_S1024x128_0_384 inb_S1024x4_S1024x1_0_3 x; dsimp only at e ⊢; exact e
  · intro x; have e := piece_vScale' acc xc xs ⟨2, by decide⟩ 256 2 rfl rfl inb_S1024x512_S1024x128_0_256 inb_S1024x4_S1024x1_0_2 x; dsimp only at e ⊢; exact e
  · intro x; have e := piece_vScale' acc xc xs ⟨1, by decide⟩ 128 1 rfl rfl inb_S1024x512_S1024x128_0_128 inb_S1024x4_S1024x1_0_1 x; dsimp only at e ⊢; exact e
  · intro x; have e := piece_vScale' acc xc xs ⟨0, by decide⟩ 0 0 rfl rfl inb_S1024x512_S1024x128_0_0 inb_S1024x4_S1024x1_0_0 x; dsimp only at e ⊢; exact e

theorem outN_apply (x0 : FVec Ideal S2 .f32) (acc : FVec Ideal S1024x512 .f32) (x4 : IVec S1024x512 8) (x5 : FVec Ideal S1024x4 .f32)
    (x6 : IVec S1024x512 8) (x7 : FVec Ideal S1024x4 .f32) (r : Fin 1024) (q : Fin 512) :
    outN (F := Ideal) x0 acc x4 x5 x6 x7 (ix2 r q) = upd (x0 (ix1 0)) (x0 (ix1 1)) (mAt acc x4 x5 r q) (vAt acc x6 x7 r q) := by
  have e0 : bcAt0 (F := Ideal) x0 = x0 (ix1 0) := by
    show x0 _ = x0 _
    congr 1; funext a; apply Fin.ext; match a with | ⟨0, _⟩ => rfl
  have e1 : bcAt1 (F := Ideal) x0 = x0 (ix1 1) := by
    show x0 _ = x0 _
    congr 1; funext a; apply Fin.ext; match a with | ⟨0, _⟩ => rfl
  unfold outN
  rw [e0, e1]
  exact View.canon_apply_of_pieces (Val := Elt Ideal) (e := .bf16) (fun i : S1024x512.Idx => upd (x0 (ix1 0)) (x0 (ix1 1)) (mAt acc x4 x5 (i 0) (i 1)) (vAt acc x6 x7 (i 0) (i 1))) _
    (List.forall_mem_cons.2 ⟨piece_n acc x4 x5 ⟨3, by decide⟩ inb_S1024x512_S1024x128_0_384 inb_S1024x4_S1024x1_0_3 x6 x7 _ _, List.forall_mem_cons.2 ⟨piece_n acc x4 x5 ⟨2, by decide⟩ inb_S1024x512_S1024x128_0_256 inb_S1024x4_S1024x1_0_2 x6 x7 _ _, List.forall_mem_cons.2 ⟨piece_n acc x4 x5 ⟨1, by decide⟩ inb_S1024x512_S1024x128_0_128 inb_S1024x4_S1024x1_0_1 x6 x7 _ _, List.forall_mem_cons.2 ⟨piece_n acc x4 x5 ⟨0, by decide⟩ inb_S1024x512_S1024x128_0_0 inb_S1024x4_S1024x1_0_0 x6 x7 _ _, List.forall_mem_nil _⟩⟩⟩⟩) _ (cover_bf16 _ _ _ _ _)

end Cert.Proof.GradBlock

end
-- ==== Proof.GradSum.lean ====
/- The first call's running sum: after a row's last point it is the projected gradient. -/
module

public import proofs.«01_k».proof.Proof.GradBlock
public import proofs.«01_k».proof.Proof.GradData
public import Idealize.ShloMosaic.Lib.Pointwise.Sums

@[expose] public section

noncomputable section

namespace Cert.Proof.GradSum

open Cert.Kernel Cert.Kernel.Gen Cert.Proof.Spec Cert.Proof.KernelOps Idealize.ShloMosaic Idealize.ShloMosaic.TcCoe
open Idealize.ShloMosaic.Pipeline (Dat)

open Cert.Proof.GradBlock

/-! ## The arguments, as a region finds them -/

variable (V : (c : Dev nD) → (b : Ref sig .tc) → Buf (Elt Ideal) ((c : Thread nD τ).loc b)) (c : Dev nD)

/-- The arguments read off the arrays the first call is given. -/
def argsOf : Args where
  x s d := (V c main_v0 : FVec Ideal S4096x6144 .bf16) (ix2 s d)
  dy s f := (V c main_v1 : FVec Ideal S4096x15360 .bf16) (ix2 s f)
  w f d := (V c main_arg2 : FVec Ideal S15360x6144 .bf16) (ix2 f d)
  p d q := (V c main_arg3 : FVec Ideal S6144x512 .bf16) (ix2 d q)
  b1 := (V c main_v9 : FVec Ideal S2 .f32) (ix1 0)
  b2 := (V c main_v9 : FVec Ideal S2 .f32) (ix1 1)
  mc f q := (V c main_arg5 : IVec S15360x512 8) (ix2 f q)
  ms f b := (V c main_arg6 : FVec Ideal S15360x4 .f32) (ix2 f b)
  vc f q := (V c main_arg7 : IVec S15360x512 8) (ix2 f q)
  vs f b := (V c main_arg8 : FVec Ideal S15360x4 .f32) (ix2 f b)

set_option backward.proofsInPublic true in
/-- Row `r` of point `n`'s row block. -/
def row (n : ℕ) (hn : n < 180) (r : Fin 1024) : Fin 15360 := ⟨n / 12 * 1024 + r.val, by have := r.isLt; omega⟩
set_option backward.proofsInPublic true in
/-- Column `d` of step `j`'s column block. -/
def column (j : ℕ) (hj : j < 12) (d : Fin 512) : Fin 6144 := ⟨j * 512 + d.val, by have := d.isLt; omega⟩

theorem lt180 (t : Fin cfg0.N) : t.val < 180 := lt_of_lt_of_eq t.isLt N_0
theorem mod12 (n : ℕ) : n % 12 < 12 := Nat.mod_lt _ (by decide)

/-! ## The blocks at a point -/

theorem index1 : ∀ t : Fin cfg0.N, win0_1.index t (0 : Fin 2) = 0 ∧ win0_1.index t (1 : Fin 2) = t.val / 12 :=
  (by decide +kernel : ∀ t : Fin grid0.N, _)
theorem index2 : ∀ t : Fin cfg0.N, win0_2.index t (0 : Fin 2) = 0 ∧ win0_2.index t (1 : Fin 2) = t.val % 12 :=
  (by decide +kernel : ∀ t : Fin grid0.N, _)
theorem index3 : ∀ t : Fin cfg0.N, win0_3.index t (0 : Fin 2) = t.val % 12 ∧ win0_3.index t (1 : Fin 2) = 0 :=
  (by decide +kernel : ∀ t : Fin grid0.N, _)
theorem index4 : ∀ t : Fin cfg0.N, win0_4.index t (0 : Fin 2) = t.val / 12 ∧ win0_4.index t (1 : Fin 2) = 0 :=
  (by decide +kernel : ∀ t : Fin grid0.N, _)
theorem index5 : ∀ t : Fin cfg0.N, win0_5.index t (0 : Fin 2) = t.val / 12 ∧ win0_5.index t (1 : Fin 2) = 0 :=
  (by decide +kernel : ∀ t : Fin grid0.N, _)
theorem index6 : ∀ t : Fin cfg0.N, win0_6.index t (0 : Fin 2) = t.val / 12 ∧ win0_6.index t (1 : Fin 2) = 0 :=
  (by decide +kernel : ∀ t : Fin grid0.N, _)
theorem index7 : ∀ t : Fin cfg0.N, win0_7.index t (0 : Fin 2) = t.val / 12 ∧ win0_7.index t (1 : Fin 2) = 0 :=
  (by decide +kernel : ∀ t : Fin grid0.N, _)
theorem index8 : ∀ t : Fin cfg0.N, win0_8.index t (0 : Fin 2) = t.val / 12 ∧ win0_8.index t (1 : Fin 2) = 0 :=
  (by decide +kernel : ∀ t : Fin grid0.N, _)
theorem index9 : ∀ t : Fin cfg0.N, win0_9.index t (0 : Fin 2) = t.val / 12 ∧ win0_9.index t (1 : Fin 2) = 0 :=
  (by decide +kernel : ∀ t : Fin grid0.N, _)
theorem index10 : ∀ t : Fin cfg0.N, win0_10.index t (0 : Fin 2) = t.val / 12 ∧ win0_10.index t (1 : Fin 2) = 0 :=
  (by decide +kernel : ∀ t : Fin grid0.N, _)
theorem index11 : ∀ t : Fin cfg0.N, win0_11.index t (0 : Fin 2) = t.val / 12 ∧ win0_11.index t (1 : Fin 2) = 0 :=
  (by decide +kernel : ∀ t : Fin grid0.N, _)
theorem index12 : ∀ t : Fin cfg0.N, win0_12.index t (0 : Fin 2) = t.val / 12 ∧ win0_12.index t (1 : Fin 2) = 0 :=
  (by decide +kernel : ∀ t : Fin grid0.N, _)
theorem index0 : ∀ t : Fin cfg0.N, win0_0.index t (0 : Fin 1) = 0 :=
  (by decide +kernel : ∀ t : Fin grid0.N, _)

theorem bDy_apply (t : Fin cfg0.N) (s : Fin 4096) (r : Fin 1024) :
    bDy (F := Ideal) V c t (ix2 s r) = (argsOf V c).dy s (row t.val (lt180 t) r) := by
  obtain ⟨e0, e1⟩ := index1 t
  refine congrArg (V c main_v1) ?_
  funext a; apply Fin.ext
  match a with
  | ⟨0, _⟩ => show win0_1.index t (0 : Fin 2) * 4096 + 1 * s.val = s.val; rw [e0]; omega
  | ⟨1, _⟩ => show win0_1.index t (1 : Fin 2) * 1024 + 1 * r.val = t.val / 12 * 1024 + r.val; rw [e1]; omega

theorem bX_apply (t : Fin cfg0.N) (s : Fin 4096) (d : Fin 512) :
    bX (F := Ideal) V c t (ix2 s d) = (argsOf V c).x s (column (t.val % 12) (mod12 _) d) := by
  obtain ⟨e0, e1⟩ := index2 t
  refine congrArg (V c main_v0) ?_
  funext a; apply Fin.ext
  match a with
  | ⟨0, _⟩ => show win0_2.index t (0 : Fin 2) * 4096 + 1 * s.val = s.val; rw [e0]; omega
  | ⟨1, _⟩ => show win0_2.index t (1 : Fin 2) * 512 + 1 * d.val = t.val % 12 * 512 + d.val; rw [e1]; omega

theorem bP_apply (t : Fin cfg0.N) (d : Fin 512) (q : Fin 512) :
    bP (F := Ideal) V c t (ix2 d q) = (argsOf V c).p (column (t.val % 12) (mod12 _) d) q := by
  obtain ⟨e0, e1⟩ := index3 t
  refine congrArg (V c main_arg3) ?_
  funext a; apply Fin.ext
  match a with
  | ⟨0, _⟩ => show win0_3.index t (0 : Fin 2) * 512 + 1 * d.val = t.val % 12 * 512 + d.val; rw [e0]; omega
  | ⟨1, _⟩ => show win0_3.index t (1 : Fin 2) * 512 + 1 * q.val = q.val; rw [e1]; omega

theorem bMC_apply (t : Fin cfg0.N) (r : Fin 1024) (q : Fin 512) :
    bMC (F := Ideal) V c t (ix2 r q) = (argsOf V c).mc (row t.val (lt180 t) r) q := by
  obtain ⟨e0, e1⟩ := index4 t
  refine congrArg (V c main_arg5) ?_
  funext a; apply Fin.ext
  match a with
  | ⟨0, _⟩ => show win0_4.index t (0 : Fin 2) * 1024 + 1 * r.val = t.val / 12 * 1024 + r.val; rw [e0]; omega
  | ⟨1, _⟩ => show win0_4.index t (1 : Fin 2) * 512 + 1 * q.val = q.val; rw [e1]; omega

theorem bMS_apply (t : Fin cfg0.N) (r : Fin 1024) (q : Fin 4) :
    bMS (F := Ideal) V c t (ix2 r q) = (argsOf V c).ms (row t.val (lt180 t) r) q := by
  obtain ⟨e0, e1⟩ := index5 t
  refine congrArg (V c main_arg6) ?_
  funext a; apply Fin.ext
  match a with
  | ⟨0, _⟩ => show win0_5.index t (0 : Fin 2) * 1024 + 1 * r.val = t.val / 12 * 1024 + r.val; rw [e0]; omega
  | ⟨1, _⟩ => show win0_5.index t (1 : Fin 2) * 4 + 1 * q.val = q.val; rw [e1]; omega

theorem bVC_apply (t : Fin cfg0.N) (r : Fin 1024) (q : Fin 512) :
    bVC (F := Ideal) V c t (ix2 r q) = (argsOf V c).vc (row t.val (lt180 t) r) q := by
  obtain ⟨e0, e1⟩ := index6 t
  refine congrArg (V c main_arg7) ?_
  funext a; apply Fin.ext
  match a with
  | ⟨0, _⟩ => show win0_6.index t (0 : Fin 2) * 1024 + 1 * r.val = t.val / 12 * 1024 + r.val; rw [e0]; omega
  | ⟨1, _⟩ => show win0_6.index t (1 : Fin 2) * 512 + 1 * q.val = q.val; rw [e1]; omega

theorem bVS_apply (t : Fin cfg0.N) (r : Fin 1024) (q : Fin 4) :
    bVS (F := Ideal) V c t (ix2 r q) = (argsOf V c).vs (row t.val (lt180 t) r) q := by
  obtain ⟨e0, e1⟩ := index7 t
  refine congrArg (V c main_arg8) ?_
  funext a; apply Fin.ext
  match a with
  | ⟨0, _⟩ => show win0_7.index t (0 : Fin 2) * 1024 + 1 * r.val = t.val / 12 * 1024 + r.val; rw [e0]; omega
  | ⟨1, _⟩ => show win0_7.index t (1 : Fin 2) * 4 + 1 * q.val = q.val; rw [e1]; omega

theorem bBc_apply0 (t : Fin cfg0.N) : bBc (F := Ideal) V c t (ix1 0) = (argsOf V c).b1 := by
  have e0 := index0 t
  refine congrArg (V c main_v9) ?_
  funext a; apply Fin.ext
  match a with
  | ⟨0, _⟩ => show win0_0.index t (0 : Fin 1) * 2 + 1 * 0 = 0; rw [e0]

theorem bBc_apply1 (t : Fin cfg0.N) : bBc (F := Ideal) V c t (ix1 1) = (argsOf V c).b2 := by
  have e0 := index0 t
  refine congrArg (V c main_v9) ?_
  funext a; apply Fin.ext
  match a with
  | ⟨0, _⟩ => show win0_0.index t (0 : Fin 1) * 2 + 1 * 1 = 1; rw [e0]

/-! ## The running sum -/

/-- The part of a projected gradient that column block `j` gives. -/
def part (a : Args) (f : Fin 15360) (q : Fin 512) (j : ℕ) : EReal :=
  if hj : j < 12 then ∑ d : Fin 512, a.grad f (column j hj d) * a.p (column j hj d) q else 0

/-- One step's sum, at a point whose scratch holds the transposed block. -/
theorem step_apply (t : Fin cfg0.N) (T : FVec Ideal S1024x4096 .bf16)
    (hT : ∀ (f : Fin 1024) (s : Fin 4096), T (ix2 f s) = (argsOf V c).dy s (row t.val (lt180 t) f)) (acc : FVec Ideal S1024x512 .f32) (r : Fin 1024) (q : Fin 512) :
    stepAcc (F := Ideal) T (bX V c t) acc (bP V c t) (ix2 r q)
      = (acc (ix2 r q) + part (argsOf V c) (row t.val (lt180 t) r) q (t.val % 12) : EReal) := by
  refine (acc_apply _ _ _ _ r q).trans ?_
  unfold part
  rw [dif_pos (mod12 _)]
  unfold Args.grad
  simp only [hT, bX_apply, bP_apply]

/-- What the scratch holds after point `n`: the row block's gradient transposed, and the sum of the column blocks so far. -/
def Good (n : ℕ) (hn : n < cfg0.N) (T : FVec Ideal S1024x4096 .bf16) (acc : FVec Ideal S1024x512 .f32) : Prop :=
  (∀ (f : Fin 1024) (s : Fin 4096), T (ix2 f s) = (argsOf V c).dy s (row n (lt180 ⟨n, hn⟩) f))
    ∧ ∀ (r : Fin 1024) (q : Fin 512), acc (ix2 r q) = ∑ j ∈ Finset.range (n % 12 + 1), part (argsOf V c) (row n (lt180 ⟨n, hn⟩) r) q j

theorem good_first (t : Fin cfg0.N) (h0 : t.val % 12 = 0) :
    Good V c t.val t.isLt (dytOf (F := Ideal) (bDy V c t)) (stepAcc (F := Ideal) (dytOf (bDy V c t)) (bX V c t) zeroAcc (bP V c t)) := by
  have hT : ∀ (f : Fin 1024) (s : Fin 4096), dytOf (F := Ideal) (bDy V c t) (ix2 f s) = (argsOf V c).dy s (row t.val (lt180 t) f) := fun f s =>
    (dyt_apply _ f s).trans (bDy_apply V c t s f)
  refine ⟨hT, fun r q => ?_⟩
  refine (step_apply V c t _ hT _ r q).trans ?_
  rw [Finset.sum_range_succ, h0, Finset.sum_range_zero]
  exact congrArg (· + part (argsOf V c) (row t.val (lt180 t) r) q 0) (zero_apply r q)

theorem good_next (t : Fin cfg0.N) (h0 : ¬t.val % 12 = 0) (n : ℕ) (hn : n < cfg0.N) (ht : t.val = n + 1)
    (T : FVec Ideal S1024x4096 .bf16) (acc : FVec Ideal S1024x512 .f32) (hz : Good V c n hn T acc) :
    Good V c t.val t.isLt T (stepAcc (F := Ideal) T (bX V c t) acc (bP V c t)) := by
  obtain ⟨h1, h2⟩ := hz
  have er : ∀ f, row n (lt180 ⟨n, hn⟩) f = row t.val (lt180 t) f := fun f =>
    Fin.ext (by show n / 12 * 1024 + f.val = t.val / 12 * 1024 + f.val
                have : t.val / 12 = n / 12 := by omega
                rw [this])
  have hT : ∀ (f : Fin 1024) (s : Fin 4096), T (ix2 f s) = (argsOf V c).dy s (row t.val (lt180 t) f) := fun f s => by
    rw [← er]; exact h1 f s
  have em : t.val % 12 = n % 12 + 1 := by omega
  refine ⟨hT, fun r q => ?_⟩
  refine (step_apply V c t _ hT _ r q).trans ?_
  rw [Finset.sum_range_succ]
  refine congrArg (· + part (argsOf V c) (row t.val (lt180 t) r) q (t.val % 12)) ?_
  rw [em, ← er]; exact h2 r q

/-- The same of a pair. -/
def GoodPair (n : ℕ) (hn : n < cfg0.N) (z : FVec Ideal S1024x4096 .bf16 × FVec Ideal S1024x512 .f32) : Prop := Good V c n hn z.1 z.2

theorem goodPair_mk (n : ℕ) (hn : n < cfg0.N) (z : FVec Ideal S1024x4096 .bf16 × FVec Ideal S1024x512 .f32) (T : FVec Ideal S1024x4096 .bf16)
    (acc : FVec Ideal S1024x512 .f32) (e : z = (T, acc)) (h : Good V c n hn T acc) : GoodPair V c n hn z := by
  subst e; exact h

theorem good (n : ℕ) (hn : n < cfg0.N) : GoodPair V c n hn (scAt (F := Ideal) V c n hn) := by
  induction n with
  | zero => exact goodPair_mk V c 0 hn _ _ _ (scAt_first (F := Ideal) V c ⟨0, hn⟩ rfl) (good_first V c ⟨0, hn⟩ rfl)
  | succ n ih =>
    by_cases h0 : (n + 1) % 12 = 0
    · exact goodPair_mk V c (n + 1) hn _ _ _ (scAt_first (F := Ideal) V c ⟨n + 1, hn⟩ h0) (good_first V c ⟨n + 1, hn⟩ h0)
    · exact goodPair_mk V c (n + 1) hn _ _ _ (scAt_next (F := Ideal) V c ⟨n + 1, hn⟩ h0 (Nat.lt_of_succ_lt hn))
        (good_next V c ⟨n + 1, hn⟩ h0 n (Nat.lt_of_succ_lt hn) rfl _ _ (ih _))

/-- All twelve column blocks make the projected gradient. -/
theorem sum_part (a : Args) (f : Fin 15360) (q : Fin 512) : ∑ j ∈ Finset.range 12, part a f q j = a.proj f q := by
  unfold Args.proj
  rw [Fin.sum_univ_tiles 12 512 (by decide), Finset.sum_range]
  refine Finset.sum_congr rfl fun j _ => ?_
  unfold part
  rw [dif_pos j.isLt]
  rfl

/-- After a row's last point the sum is the projected gradient. -/
theorem acc_last (t : Fin cfg0.N) (h : t.val % 12 = 11) (r : Fin 1024) (q : Fin 512) :
    (scAt (F := Ideal) V c t.val t.isLt).2 (ix2 r q) = (argsOf V c).proj (row t.val (lt180 t) r) q := by
  refine ((good V c t.val t.isLt).2 r q).trans ?_
  rw [h]
  exact sum_part _ _ _

/-- The moments after a row's last point. -/
theorem mAt_last (t : Fin cfg0.N) (h : t.val % 12 = 11) (r : Fin 1024) (q : Fin 512) :
    mAt (scAt (F := Ideal) V c t.val t.isLt).2 (bMC V c t) (bMS V c t) r q = (argsOf V c).m (row t.val (lt180 t) r) q := by
  unfold mAt Args.m
  rw [acc_last V c t h, bMC_apply, bMS_apply]
theorem vAt_last (t : Fin cfg0.N) (h : t.val % 12 = 11) (r : Fin 1024) (q : Fin 512) :
    vAt (scAt (F := Ideal) V c t.val t.isLt).2 (bVC V c t) (bVS V c t) r q = (argsOf V c).v (row t.val (lt180 t) r) q := by
  unfold vAt Args.v
  rw [acc_last V c t h, bVC_apply, bVS_apply]

end Cert.Proof.GradSum

end
-- ==== Proof.KernelHost.lean ====
/- The arguments as the first call finds them, after the kernel's host operations. -/
module

public import proofs.«01_k».proof.Proof.GradSum
public import proofs.«01_k».proof.Proof.Whole

@[expose] public section

noncomputable section

namespace Cert.Proof.KernelHost

open Cert.Kernel Cert.Kernel.Gen Cert.Proof.Spec Cert.Proof.KernelOps Idealize.ShloMosaic Idealize.ShloMosaic.TcCoe
open Idealize.ShloMosaic.Pipeline (Dat)

open Cert.Proof.GradSum Idealize.ShloMosaic.StableHlo

/-- A bias correction: one less the rate to the step's power. -/
def bias (k : BitVec 32) (t : IVec S_ 32) : EReal :=
  subf (F := Ideal) (constant (F := Ideal) S_ .f32 0x3F800000#32) (Host.powf (F := Ideal) (constant (F := Ideal) S_ .f32 k) (sitofp (F := Ideal) .f32 t)) ix0

/-- The arguments at their coordinates. -/
def argsAt (x : FVec Ideal S1x4096x6144 .bf16) (dy : FVec Ideal S1x4096x15360 .bf16) (w : FVec Ideal S15360x6144 .bf16) (p : FVec Ideal S6144x512 .bf16)
    (t : IVec S_ 32) (mc : IVec S15360x512 8) (ms : FVec Ideal S15360x4 .f32) (vc : IVec S15360x512 8) (vs : FVec Ideal S15360x4 .f32) : Args where
  x s d := x (ix3 0 s d)
  dy s f := dy (ix3 0 s f)
  w f d := w (ix2 f d)
  p d q := p (ix2 d q)
  b1 := bias 0x3F666666#32 t
  b2 := bias 0x3F7FBE77#32 t
  mc f q := mc (ix2 f q)
  ms f b := ms (ix2 f b)
  vc f q := vc (ix2 f q)
  vs f b := vs (ix2 f b)

/-! ## What the operations before the first call leave -/

variable (W : Valuation τ sig (Elt Ideal))

theorem v0_eq : after (hostOps0 (F := Ideal)) W (main_v0 : DevRef τ sig)
    = shapeCast S4096x6144 (W (main_arg0 : DevRef τ sig) : FVec Ideal S1x4096x6144 .bf16) shapeCasts_S1x4096x6144_S4096x6144 := by
  after_results
  rfl

theorem v1_eq : after (hostOps0 (F := Ideal)) W (main_v1 : DevRef τ sig)
    = shapeCast S4096x15360 (W (main_arg1 : DevRef τ sig) : FVec Ideal S1x4096x15360 .bf16) shapeCasts_S1x4096x15360_S4096x15360 := by
  after_results
  rfl

/-- One bias correction as the first call's operand holds it. -/
def biasVec (k : BitVec 32) (t : IVec S_ 32) : FVec Ideal S1 .f32 :=
  broadcastInDim S1 ![] bcast_S_S1 (subf (F := Ideal) (constant (F := Ideal) S_ .f32 0x3F800000#32)
    (Host.powf (F := Ideal) (constant (F := Ideal) S_ .f32 k) (sitofp (F := Ideal) .f32 t)))

theorem biasVec_apply (k : BitVec 32) (t : IVec S_ 32) (i : S1.Idx) : biasVec k t i = bias k t := by
  unfold biasVec bias
  show subf (F := Ideal) _ _ _ = subf (F := Ideal) _ _ _
  congr 1
  funext a; exact a.elim0

theorem v9_eq : after (hostOps0 (F := Ideal)) W (main_v9 : DevRef τ sig)
    = concatenate S2 0 [⟨S1, biasVec 0x3F666666#32 (W (main_arg4 : DevRef τ sig))⟩, ⟨S1, biasVec 0x3F7FBE77#32 (W (main_arg4 : DevRef τ sig))⟩] concatenates_S1_S1_S2_d0 := by
  after_results
  rfl

theorem pair_0 (a b : FVec Ideal S1 .f32) : concatenate S2 0 [⟨S1, a⟩, ⟨S1, b⟩] concatenates_S1_S1_S2_d0 (ix1 0) = a (ix1 0) := by
  refine (concatenate_pair_apply _ _ _ _ _).trans ?_
  rw [dif_pos (by decide)]
  congr 1; funext i; apply Fin.ext; match i with | ⟨0, _⟩ => rfl
theorem pair_1 (a b : FVec Ideal S1 .f32) : concatenate S2 0 [⟨S1, a⟩, ⟨S1, b⟩] concatenates_S1_S1_S2_d0 (ix1 1) = b (ix1 0) := by
  refine (concatenate_pair_apply _ _ _ _ _).trans ?_
  rw [dif_neg (by decide)]
  congr 1; funext i; apply Fin.ext; match i with | ⟨0, _⟩ => rfl

/-- Dropping the leading axis of one. -/
theorem reshape_x (x : FVec Ideal S1x4096x6144 .bf16) (s : Fin 4096) (d : Fin 6144) :
    shapeCast S4096x6144 x shapeCasts_S1x4096x6144_S4096x6144 (ix2 s d) = x (ix3 0 s d) :=
  shapeCast_apply x _ _ _ (by rw [Shape.rowMajor_val_two, Shape.rowMajor_val_three]; show (0 * 4096 + s.val) * 6144 + d.val = s.val * 6144 + d.val; omega)
theorem reshape_dy (x : FVec Ideal S1x4096x15360 .bf16) (s : Fin 4096) (d : Fin 15360) :
    shapeCast S4096x15360 x shapeCasts_S1x4096x15360_S4096x15360 (ix2 s d) = x (ix3 0 s d) :=
  shapeCast_apply x _ _ _ (by rw [Shape.rowMajor_val_two, Shape.rowMajor_val_three]; show (0 * 4096 + s.val) * 15360 + d.val = s.val * 15360 + d.val; omega)

end Cert.Proof.KernelHost

end
-- ==== Proof.ReferenceHost.lean ====
/- What the reference computes before its one call, read at one element. -/
module

public import proofs.«01_k».proof.Proof.ReferenceRegion
public import proofs.«01_k».proof.Proof.KernelHost
public import Idealize.ShloMosaic.Lib.Pointwise

@[expose] public section

noncomputable section

namespace Cert.Proof.ReferenceHost

open Cert.ReferenceIdeal Cert.ReferenceIdeal.Gen Cert.Proof.Spec Cert.Proof.ReferenceOps Idealize.ShloMosaic Idealize.ShloMosaic.TcCoe
open Idealize.ShloMosaic.Pipeline (Dat)
open Idealize.SL.Sem

/-! ## The host operations before the call, one element at a time, at the extended reals -/

/-- The gradient's product runs over the batch of one and the 4096 samples. -/
theorem grad_apply (x0 : FVec Ideal S1x4096x6144 .bf16) (x1 : FVec Ideal S1x4096x15360 .bf16) (f : Fin 15360) (d : Fin 6144) :
    Host.dotGeneral (F := Ideal) dot_S1x4096x15360_S1x4096x6144_S15360x6144_01_01_2_2_n_n none x1 x0 (ix2 f d)
      = (∑ s : Fin 4096, x1 (ix3 0 s f) * x0 (ix3 0 s d) : EReal) := by
  pointwise
  exact Fin.sum_univ_one _

theorem proj_apply (y : FVec Ideal S15360x6144 .bf16) (x3 : FVec Ideal S6144x512 .bf16) (f : Fin 15360) (q : Fin 512) :
    Host.dotGeneral (F := Ideal) dot_S15360x6144_S6144x512_S15360x512_1_0_0_1_n_n none y x3 (ix2 f q)
      = (∑ d : Fin 6144, y (ix2 f d) * x3 (ix2 d q) : EReal) := by
  pointwise

/-- A row of 512 cut into four blocks of 128 lanes. -/
theorem cut_apply {A : Type} (y : S15360x512.Idx → A) (r : Fin 15360) (k : Fin 4) (l : Fin 128) :
    shapeCast S15360x4x128 y shapeCasts_S15360x512_S15360x4x128 (ix3 r k l) = y (ix2 r (col k l)) := by
  refine shapeCast_apply _ _ _ _ ?_
  rw [Shape.rowMajor_val_two, Shape.rowMajor_val_three]
  show r.val * 512 + (col k l).val = (r.val * 4 + k.val) * 128 + l.val
  simp only [col]
  omega

theorem cutScale_apply {A : Type} (y : S15360x4.Idx → A) (r : Fin 15360) (k : Fin 4) :
    shapeCast S15360x4x1 y shapeCasts_S15360x4_S15360x4x1 (ix3 r k 0) = y (ix2 r k) := by
  refine shapeCast_apply _ _ _ _ ?_
  rw [Shape.rowMajor_val_two, Shape.rowMajor_val_three]
  show r.val * 4 + k.val = (r.val * 4 + k.val) * 1 + 0
  omega

theorem cutBias_apply {A : Type} (y : S_.Idx → A) :
    shapeCast S1x1x1 y shapeCasts_S_S1x1x1 (ix3 0 0 0) = y ix0 := by
  unfold shapeCast
  exact congrArg y (funext fun a => a.elim0)

/-- The projected gradient, cut into blocks. -/
theorem gradProj_apply (x0 : FVec Ideal S1x4096x6144 .bf16) (x1 : FVec Ideal S1x4096x15360 .bf16) (x3 : FVec Ideal S6144x512 .bf16)
    (r : Fin 15360) (k : Fin 4) (l : Fin 128) :
    shapeCast S15360x4x128 (Host.dotGeneral (F := Ideal) dot_S15360x6144_S6144x512_S15360x512_1_0_0_1_n_n none
        (truncf (F := Ideal) .bf16 (Host.dotGeneral (F := Ideal) dot_S1x4096x15360_S1x4096x6144_S15360x6144_01_01_2_2_n_n none x1 x0) bitsLt_bf16_f32) x3)
        shapeCasts_S15360x512_S15360x4x128 (ix3 r k l)
      = (∑ d : Fin 6144, (∑ s : Fin 4096, x1 (ix3 0 s r) * x0 (ix3 0 s d)) * x3 (ix2 d (col k l)) : EReal) := by
  rw [cut_apply, proj_apply]
  refine Finset.sum_congr rfl fun d _ => congrArg (· * _) ?_
  exact grad_apply x0 x1 r d

/-! ## The call's operands -/

section Operands
variable (W : Valuation τ sig (Elt Ideal))

theorem after8 : StableHlo.after (List.flatten [hostOps0 (F := Ideal)]) W (Proc.devRef .tc main_v8) = shapeCast S1x1x1 (subf (F := Ideal) (constant (F := Ideal) S_ .f32 0x3F800000#32) (Host.powf (F := Ideal) (constant (F := Ideal) S_ .f32 0x3F666666#32) (sitofp (F := Ideal) .f32 (W (Proc.devRef .tc main_arg4))))) shapeCasts_S_S1x1x1 := by
  simp only [Gen.hostOps0, List.flatten_cons, List.flatten_nil, List.append_nil, List.cons_append, List.nil_append]
  after_results <;> rfl

theorem after9 : StableHlo.after (List.flatten [hostOps0 (F := Ideal)]) W (Proc.devRef .tc main_v9) = shapeCast S1x1x1 (subf (F := Ideal) (constant (F := Ideal) S_ .f32 0x3F800000#32) (Host.powf (F := Ideal) (constant (F := Ideal) S_ .f32 0x3F7FBE77#32) (sitofp (F := Ideal) .f32 (W (Proc.devRef .tc main_arg4))))) shapeCasts_S_S1x1x1 := by
  simp only [Gen.hostOps0, List.flatten_cons, List.flatten_nil, List.append_nil, List.cons_append, List.nil_append]
  after_results <;> rfl

theorem after10 : StableHlo.after (List.flatten [hostOps0 (F := Ideal)]) W (Proc.devRef .tc main_v10) = shapeCast S15360x4x128 (Host.dotGeneral (F := Ideal) (φ₁ := .bf16) (φ₂ := .bf16) dot_S15360x6144_S6144x512_S15360x512_1_0_0_1_n_n none (truncf (F := Ideal) .bf16 (φ := .f32) (Host.dotGeneral (F := Ideal) (φ₁ := .bf16) (φ₂ := .bf16) dot_S1x4096x15360_S1x4096x6144_S15360x6144_01_01_2_2_n_n none ((W (Proc.devRef .tc main_arg1)) : FVec Ideal S1x4096x15360 .bf16) ((W (Proc.devRef .tc main_arg0)) : FVec Ideal S1x4096x6144 .bf16)) bitsLt_bf16_f32) ((W (Proc.devRef .tc main_arg3)) : FVec Ideal S6144x512 .bf16)) shapeCasts_S15360x512_S15360x4x128 := by
  simp only [Gen.hostOps0, List.flatten_cons, List.flatten_nil, List.append_nil, List.cons_append, List.nil_append]
  after_results <;> rfl

theorem after11 : StableHlo.after (List.flatten [hostOps0 (F := Ideal)]) W (Proc.devRef .tc main_v11) = shapeCast S15360x4x128 (W (Proc.devRef .tc main_arg5)) shapeCasts_S15360x512_S15360x4x128 := by
  simp only [Gen.hostOps0, List.flatten_cons, List.flatten_nil, List.append_nil, List.cons_append, List.nil_append]
  after_results <;> rfl

theorem after13 : StableHlo.after (List.flatten [hostOps0 (F := Ideal)]) W (Proc.devRef .tc main_v13) = shapeCast S15360x4x128 (W (Proc.devRef .tc main_arg7)) shapeCasts_S15360x512_S15360x4x128 := by
  simp only [Gen.hostOps0, List.flatten_cons, List.flatten_nil, List.append_nil, List.cons_append, List.nil_append]
  after_results <;> rfl

theorem after12 : StableHlo.after (List.flatten [hostOps0 (F := Ideal)]) W (Proc.devRef .tc main_v12) = shapeCast S15360x4x1 (W (Proc.devRef .tc main_arg6)) shapeCasts_S15360x4_S15360x4x1 := by
  simp only [Gen.hostOps0, List.flatten_cons, List.flatten_nil, List.append_nil, List.cons_append, List.nil_append]
  after_results <;> rfl

theorem after14 : StableHlo.after (List.flatten [hostOps0 (F := Ideal)]) W (Proc.devRef .tc main_v14) = shapeCast S15360x4x1 (W (Proc.devRef .tc main_arg8)) shapeCasts_S15360x4_S15360x4x1 := by
  simp only [Gen.hostOps0, List.flatten_cons, List.flatten_nil, List.append_nil, List.cons_append, List.nil_append]
  after_results <;> rfl

end Operands

end Cert.Proof.ReferenceHost

end
-- ==== Proof.ReferenceValue.lean ====
/- The reference's results as functions of the arguments. -/
module

public import proofs.«01_k».proof.Proof.ReferenceHost
public import proofs.«01_k».proof.Proof.Gen.ReferenceIdeal.Run

@[expose] public section

noncomputable section

namespace Cert.Proof.ReferenceValue

open Cert.ReferenceIdeal Cert.ReferenceIdeal.Gen Cert.Proof.Spec Cert.Proof.ReferenceOps Idealize.ShloMosaic Idealize.ShloMosaic.TcCoe
open Idealize.ShloMosaic.Pipeline (Dat)
open Idealize.SL.Sem

variable (m : (ℓ : Loc nD τ sig) → Buf (Elt Ideal) ℓ) (c : Dev nD)

/-- The reference's arguments at their coordinates. -/
abbrev args : Args := KernelHost.argsAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-! ## The call's operands at one element -/

theorem v8_apply : (V m c main_v8 : FVec Ideal S1x1x1 .f32) (ix3 0 0 0) = (args m c).b1 := by
  rw [show V m c main_v8 = _ from ReferenceHost.after8 (fun b => m (c, b)), ReferenceHost.cutBias_apply]
  rfl
theorem v9_apply : (V m c main_v9 : FVec Ideal S1x1x1 .f32) (ix3 0 0 0) = (args m c).b2 := by
  rw [show V m c main_v9 = _ from ReferenceHost.after9 (fun b => m (c, b)), ReferenceHost.cutBias_apply]
  rfl
theorem v10_apply (r : Fin 15360) (k : Fin 4) (l : Fin 128) :
    (V m c main_v10 : FVec Ideal S15360x4x128 .f32) (ix3 r k l) = (args m c).proj r (col k l) := by
  rw [show V m c main_v10 = _ from ReferenceHost.after10 (fun b => m (c, b))]
  exact ReferenceHost.gradProj_apply _ _ _ r k l
theorem v11_apply (r : Fin 15360) (k : Fin 4) (l : Fin 128) :
    (V m c main_v11 : IVec S15360x4x128 8) (ix3 r k l) = (args m c).mc r (col k l) := by
  rw [show V m c main_v11 = _ from ReferenceHost.after11 (fun b => m (c, b)), ReferenceHost.cut_apply]
  rfl
theorem v12_apply (r : Fin 15360) (k : Fin 4) :
    (V m c main_v12 : FVec Ideal S15360x4x1 .f32) (ix3 r k 0) = (args m c).ms r k := by
  rw [show V m c main_v12 = _ from ReferenceHost.after12 (fun b => m (c, b)), ReferenceHost.cutScale_apply]
  rfl
theorem v13_apply (r : Fin 15360) (k : Fin 4) (l : Fin 128) :
    (V m c main_v13 : IVec S15360x4x128 8) (ix3 r k l) = (args m c).vc r (col k l) := by
  rw [show V m c main_v13 = _ from ReferenceHost.after13 (fun b => m (c, b)), ReferenceHost.cut_apply]
  rfl
theorem v14_apply (r : Fin 15360) (k : Fin 4) :
    (V m c main_v14 : FVec Ideal S15360x4x1 .f32) (ix3 r k 0) = (args m c).vs r k := by
  rw [show V m c main_v14 = _ from ReferenceHost.after14 (fun b => m (c, b)), ReferenceHost.cutScale_apply]
  rfl

/-! ## The call's outputs at one element -/

theorem mom_eq (r : Fin 15360) (k : Fin 4) (l : Fin 128) :
    ReferenceOuts.mom3 (V m c main_v10) (V m c main_v11) (V m c main_v12) r k l = (args m c).m r (col k l) := by
  unfold ReferenceOuts.mom3 Args.m
  rw [v10_apply, v11_apply, v12_apply, blk_col]
theorem var_eq (r : Fin 15360) (k : Fin 4) (l : Fin 128) :
    ReferenceOuts.var3 (V m c main_v10) (V m c main_v13) (V m c main_v14) r k l = (args m c).v r (col k l) := by
  unfold ReferenceOuts.var3 Args.v
  rw [v10_apply, v13_apply, v14_apply, blk_col]

theorem momRow_eq (r : Fin 15360) (k : Fin 4) :
    (fun l => ReferenceOuts.mom3 (V m c main_v10) (V m c main_v11) (V m c main_v12) r k l) = fun l => (args m c).m r (col k l) :=
  funext fun l => mom_eq m c r k l
theorem varRow_eq (r : Fin 15360) (k : Fin 4) :
    (fun l => ReferenceOuts.var3 (V m c main_v10) (V m c main_v13) (V m c main_v14) r k l) = fun l => (args m c).v r (col k l) :=
  funext fun l => var_eq m c r k l

theorem reg0_apply (r : Fin 15360) (k : Fin 4) (l : Fin 128) :
    (Cert.ReferenceIdeal.Value.reg_main_v15_0 m c : FVec Ideal S15360x4x128 .f32) (ix3 r k l) = (args m c).n r (col k l) := by
  rw [show Cert.ReferenceIdeal.Value.reg_main_v15_0 m c = _ from ReferenceRegion.final7 m c, ReferenceOuts.out7_apply, mom_eq, var_eq, v8_apply, v9_apply]
  rfl
theorem reg1_apply (r : Fin 15360) (k : Fin 4) (l : Fin 128) :
    (Cert.ReferenceIdeal.Value.reg_main_v15_1 m c : IVec S15360x4x128 8) (ix3 r k l) = (args m c).mCode r (col k l) := by
  rw [show Cert.ReferenceIdeal.Value.reg_main_v15_1 m c = _ from ReferenceRegion.final8 m c, ReferenceOuts.out8_apply]
  rw [momRow_eq]
  unfold Args.mCode
  rw [blk_col, lane_col]
theorem reg2_apply (r : Fin 15360) (k : Fin 4) :
    (Cert.ReferenceIdeal.Value.reg_main_v15_2 m c : FVec Ideal S15360x4x1 .f32) (ix3 r k 0) = (args m c).mScale r k := by
  rw [show Cert.ReferenceIdeal.Value.reg_main_v15_2 m c = _ from ReferenceRegion.final9 m c, ReferenceOuts.out9_apply]
  rw [momRow_eq]
  rfl
theorem reg3_apply (r : Fin 15360) (k : Fin 4) (l : Fin 128) :
    (Cert.ReferenceIdeal.Value.reg_main_v15_3 m c : IVec S15360x4x128 8) (ix3 r k l) = (args m c).vCode r (col k l) := by
  rw [show Cert.ReferenceIdeal.Value.reg_main_v15_3 m c = _ from ReferenceRegion.final10 m c, ReferenceOuts.out10_apply]
  rw [varRow_eq]
  unfold Args.vCode
  rw [blk_col, lane_col]
theorem reg4_apply (r : Fin 15360) (k : Fin 4) :
    (Cert.ReferenceIdeal.Value.reg_main_v15_4 m c : FVec Ideal S15360x4x1 .f32) (ix3 r k 0) = (args m c).vScale r k := by
  rw [show Cert.ReferenceIdeal.Value.reg_main_v15_4 m c = _ from ReferenceRegion.final11 m c, ReferenceOuts.out11_apply]
  rw [varRow_eq]
  rfl

/-! ## The host operations after the call -/

/-- Four blocks of 128 lanes laid back in a row of 512. -/
theorem join_apply {A : Type} (y : S15360x4x128.Idx → A) (f : Fin 15360) (q : Fin 512) :
    shapeCast S15360x512 y shapeCasts_S15360x4x128_S15360x512 (ix2 f q) = y (ix3 f (blk q) (lane q)) := by
  refine shapeCast_apply _ _ _ _ ?_
  rw [Shape.rowMajor_val_two, Shape.rowMajor_val_three]
  show (f.val * 4 + (blk q).val) * 128 + (lane q).val = f.val * 512 + q.val
  simp only [blk, lane]
  omega
theorem joinScale_apply {A : Type} (y : S15360x4x1.Idx → A) (f : Fin 15360) (b : Fin 4) :
    shapeCast S15360x4 y shapeCasts_S15360x4x1_S15360x4 (ix2 f b) = y (ix3 f b 0) := by
  refine shapeCast_apply _ _ _ _ ?_
  rw [Shape.rowMajor_val_two, Shape.rowMajor_val_three]
  show (f.val * 4 + b.val) * 1 + 0 = f.val * 4 + b.val
  omega

/-- The step from the update and the projection. -/
def stepOf (z : FVec Ideal S15360x512 .f32) (p : FVec Ideal S6144x512 .bf16) : FVec Ideal S15360x6144 .f32 :=
  mulf (F := Ideal) (broadcastInDim S15360x6144 ![] bcast_S_S15360x6144 (constant (F := Ideal) S_ .f32 0xBB23D70A#32))
    (Host.dotGeneral (F := Ideal) dot_S15360x512_S6144x512_S15360x6144_1_1_0_0_n_n none z p)

theorem stepOf_apply (z : FVec Ideal S15360x512 .f32) (p : FVec Ideal S6144x512 .bf16) (f : Fin 15360) (d : Fin 6144) :
    stepOf z p (ix2 f d) = step (∑ q : Fin 512, z (ix2 f q) * p (ix2 d q)) := by
  unfold step
  pointwise [stepOf]

theorem stepOf_of (z : FVec Ideal S15360x512 .f32) (p : FVec Ideal S6144x512 .bf16) (f : Fin 15360) (d : Fin 6144) (n : Fin 512 → EReal)
    (h : ∀ q, z (ix2 f q) = n q) : stepOf z p (ix2 f d) = step (∑ q : Fin 512, n q * p (ix2 d q)) := by
  rw [stepOf_apply]
  refine congrArg step (Finset.sum_congr rfl fun q _ => ?_)
  rw [h q]

theorem joined_apply (f : Fin 15360) (q : Fin 512) :
    (shapeCast S15360x512 (Cert.ReferenceIdeal.Value.reg_main_v15_0 m c : FVec Ideal S15360x4x128 .f32) shapeCasts_S15360x4x128_S15360x512) (ix2 f q)
      = (args m c).n f q := by
  rw [join_apply, reg0_apply, col_blk_lane]

theorem delta_apply (f : Fin 15360) (d : Fin 6144) :
    stepOf (shapeCast _ (Cert.ReferenceIdeal.Value.reg_main_v15_0 m c) shapeCasts_S15360x4x128_S15360x512) (m ((c.tc : Thread nD τ).loc main_arg3)) (ix2 f d)
      = (args m c).delta f d := by
  exact stepOf_of _ _ f d _ (joined_apply m c f)

/-- The weights from the step. -/
theorem weight_apply (w : FVec Ideal S15360x6144 .bf16) (z : FVec Ideal S15360x6144 .f32) (i : S15360x6144.Idx) :
    truncf (F := Ideal) .bf16 (addf (F := Ideal) (extf (F := Ideal) .f32 w bitsLt_bf16_f32) z) bitsLt_bf16_f32 i = (w i + z i : EReal) := rfl

/-! ## The six results -/

theorem result_delta :
    stepOf (shapeCast _ (Cert.ReferenceIdeal.Value.reg_main_v15_0 m c) shapeCasts_S15360x4x128_S15360x512) (m ((c.tc : Thread nD τ).loc main_arg3))
      = fun i : S15360x6144.Idx => (args m c).delta (i 0) (i 1) := by
  funext i
  rw [eq_ix2 i]
  exact delta_apply m c (i 0) (i 1)

theorem result_weight (w : FVec Ideal S15360x6144 .bf16) (a : Args) (hw : ∀ f d, w (ix2 f d) = a.w f d) (z : FVec Ideal S15360x6144 .f32)
    (hz : z = fun i : S15360x6144.Idx => a.delta (i 0) (i 1)) :
    truncf (F := Ideal) .bf16 (addf (F := Ideal) (extf (F := Ideal) .f32 w bitsLt_bf16_f32) z) bitsLt_bf16_f32
      = fun i : S15360x6144.Idx => a.weight (i 0) (i 1) := by
  funext i
  rw [weight_apply, hz]
  refine congrArg (fun x : EReal => x + _) ?_
  exact (congrArg w (eq_ix2 i)).trans (hw (i 0) (i 1))

theorem result_code (y : IVec S15360x4x128 8) (g : Fin 15360 → Fin 512 → Elt Ideal .i8) (h : ∀ r k l, y (ix3 r k l) = g r (col k l)) :
    shapeCast S15360x512 y shapeCasts_S15360x4x128_S15360x512 = fun i : S15360x512.Idx => g (i 0) (i 1) := by
  funext i
  have e : ∀ (f : Fin 15360) (q : Fin 512), shapeCast S15360x512 y shapeCasts_S15360x4x128_S15360x512 (ix2 f q) = g f q := fun f q => by
    rw [join_apply, h, col_blk_lane]
  exact (congrArg (shapeCast S15360x512 y shapeCasts_S15360x4x128_S15360x512) (eq_ix2 i)).trans (e (i 0) (i 1))

theorem result_scale (y : FVec Ideal S15360x4x1 .f32) (g : Fin 15360 → Fin 4 → EReal) (h : ∀ r k, y (ix3 r k 0) = g r k) :
    shapeCast S15360x4 y shapeCasts_S15360x4x1_S15360x4 = fun i : S15360x4.Idx => g (i 0) (i 1) := by
  funext i
  have e : ∀ (f : Fin 15360) (q : Fin 4), shapeCast S15360x4 y shapeCasts_S15360x4x1_S15360x4 (ix2 f q) = g f q := fun f q => by
    rw [joinScale_apply, h]
  exact (congrArg (shapeCast S15360x4 y shapeCasts_S15360x4x1_S15360x4) (eq_ix2 i)).trans (e (i 0) (i 1))

/-- The reference's run: its six results are the six functions of its arguments, which it leaves. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v22) = (fun i : S15360x6144.Idx => (args m c).weight (i 0) (i 1))
      ∧ r.2.mem ((c.tc : Thread nD τ).loc main_v19) = (fun i : S15360x6144.Idx => (args m c).delta (i 0) (i 1))
      ∧ r.2.mem ((c.tc : Thread nD τ).loc main_v23) = (fun i : S15360x512.Idx => (args m c).mCode (i 0) (i 1))
      ∧ r.2.mem ((c.tc : Thread nD τ).loc main_v24) = (fun i : S15360x4.Idx => (args m c).mScale (i 0) (i 1))
      ∧ r.2.mem ((c.tc : Thread nD τ).loc main_v25) = (fun i : S15360x512.Idx => (args m c).vCode (i 0) (i 1))
      ∧ r.2.mem ((c.tc : Thread nD τ).loc main_v26) = (fun i : S15360x4.Idx => (args m c).vScale (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (Cert.ReferenceIdeal.Value.run m g)
  obtain ⟨h0, h1, h2, h3, h4, h5, ha⟩ := h c
  exact ⟨h0.trans (result_weight _ (args m c) (fun _ _ => rfl) _ (result_delta m c)), h1.trans (result_delta m c),
    h2.trans (result_code _ _ (reg1_apply m c)), h3.trans (result_scale _ _ (reg2_apply m c)),
    h4.trans (result_code _ _ (reg3_apply m c)), h5.trans (result_scale _ _ (reg4_apply m c)), ha⟩

end Cert.Proof.ReferenceValue

end
-- ==== Proof.GradArrays.lean ====
/- What the first call leaves in its five arrays. -/
module

public import proofs.«01_k».proof.Proof.GradSum

@[expose] public section

noncomputable section

namespace Cert.Proof.GradArrays

open Cert.Kernel Cert.Kernel.Gen Cert.Proof.Spec Cert.Proof.KernelOps Idealize.ShloMosaic Idealize.ShloMosaic.TcCoe
open Idealize.ShloMosaic.Pipeline (Dat)

open Cert.Proof.GradBlock Cert.Proof.GradSum

variable (V : (c : Dev nD) → (b : Ref sig .tc) → Buf (Elt Ideal) ((c : Thread nD τ).loc b)) (c : Dev nD)

set_option backward.proofsInPublic true in
/-- The last point of row block `k`. -/
def lastOf (k : ℕ) (hk : k < 15) : Fin cfg0.N := ⟨12 * k + 11, lt_of_lt_of_eq (by omega) N_0.symm⟩

/-! ## Output 0: `n` -/

/-- A row's last point writes back its block of `n`. -/
theorem flushed8 (t : Fin cfg0.N) (hf : (cfg0.win 8).flush t = true) :
    (dat0 (F := Ideal) V c).flushed 8 t
      = ((cfg0.win 8).blk t).view.read (Elt Ideal) (fun i : S15360x512.Idx => (argsOf V c).n (i 0) (i 1)) := by
  show (cfg0.win 8).cut (grid0.coords t) ((dat0 (F := Ideal) V c).after 8 t) = _
  rw [after0_8]
  have hm : t.val % 12 = 11 := (flush0_8 t).mp hf
  obtain ⟨e0, e1⟩ := index8 t
  funext y
  obtain ⟨r, q, rfl⟩ : ∃ (r : Fin 1024) (q : Fin 512), y = ix2 r q := ⟨y 0, y 1, eq_ix2 y⟩
  have hi : ((cfg0.win 8).blk t).view.emb (ix2 r q) = (ix2 (row t.val (lt180 t) r) q : S15360x512.Idx) := by
    funext a; apply Fin.ext
    match a with
    | ⟨0, _⟩ => show win0_8.index t (0 : Fin 2) * 1024 + 1 * r.val = t.val / 12 * 1024 + r.val; rw [e0]; omega
    | ⟨1, _⟩ => show win0_8.index t (1 : Fin 2) * 512 + 1 * q.val = q.val; rw [e1]; omega
  refine Eq.trans (outN_apply (bBc V c t) (scAt (F := Ideal) V c t.val t.isLt).2 (bMC V c t) (bMS V c t) (bVC V c t) (bVS V c t) r q) ?_
  simp only [bBc_apply0, bBc_apply1, mAt_last V c t hm, vAt_last V c t hm]
  show _ = (fun i : S15360x512.Idx => (argsOf V c).n (i 0) (i 1)) (((cfg0.win 8).blk t).view.emb (ix2 r q))
  rw [hi]
  rfl

/-- An index is in a point's block iff each coordinate is in the block's range. -/
theorem mem_blk8 (t : Fin cfg0.N) (i : S15360x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v10_0).slice (win0_8.rect t)).set ↔ _
  rw [View.set_slice_whole, Rect.mem_set_unit]
  exact Iff.rfl

/-- The array after the call. -/
theorem final8 : (dat0 (F := Ideal) V c).arrAt 8 cfg0.N = (fun i : S15360x512.Idx => (argsOf V c).n (i 0) (i 1)) :=
  (dat0 (F := Ideal) V c).arrAt_eq_of_cover 8 _ (fun t hf => flushed8 V c t hf) fun (i : S15360x512.Idx) => by
    have hi0 : (i 0).val < 15360 := (i 0).isLt
    have hi1 : (i 1).val < 512 := (i 1).isLt
    have hk : (i 0).val / 1024 < 15 := by omega
    refine ⟨lastOf _ hk, (flush0_8 _).mpr (by show (12 * ((i 0).val / 1024) + 11) % 12 = 11; omega), ?_⟩
    obtain ⟨e0, e1⟩ := index8 (lastOf _ hk)
    have e0' : win0_8.index (lastOf _ hk) (0 : Fin 2) = (i 0).val / 1024 := e0.trans (by show (12 * ((i 0).val / 1024) + 11) / 12 = _; omega)
    refine (mem_blk8 _ i).2 fun a => ?_
    match a with
    | ⟨0, _⟩ => show win0_8.index (lastOf _ hk) (0 : Fin 2) * 1024 ≤ (i 0).val ∧ (i 0).val < win0_8.index (lastOf _ hk) (0 : Fin 2) * 1024 + 1024; omega
    | ⟨1, _⟩ => show win0_8.index (lastOf _ hk) (1 : Fin 2) * 512 ≤ (i 1).val ∧ (i 1).val < win0_8.index (lastOf _ hk) (1 : Fin 2) * 512 + 512; omega

/-! ## Output 1: `mCode` -/

/-- A row's last point writes back its block of `mCode`. -/
theorem flushed9 (t : Fin cfg0.N) (hf : (cfg0.win 9).flush t = true) :
    (dat0 (F := Ideal) V c).flushed 9 t
      = ((cfg0.win 9).blk t).view.read (Elt Ideal) (fun i : S15360x512.Idx => (argsOf V c).mCode (i 0) (i 1)) := by
  show (cfg0.win 9).cut (grid0.coords t) ((dat0 (F := Ideal) V c).after 9 t) = _
  rw [after0_9]
  have hm : t.val % 12 = 11 := (flush0_9 t).mp hf
  obtain ⟨e0, e1⟩ := index9 t
  funext y
  obtain ⟨r, q, rfl⟩ : ∃ (r : Fin 1024) (q : Fin 512), y = ix2 r q := ⟨y 0, y 1, eq_ix2 y⟩
  have hi : ((cfg0.win 9).blk t).view.emb (ix2 r q) = (ix2 (row t.val (lt180 t) r) q : S15360x512.Idx) := by
    funext a; apply Fin.ext
    match a with
    | ⟨0, _⟩ => show win0_9.index t (0 : Fin 2) * 1024 + 1 * r.val = t.val / 12 * 1024 + r.val; rw [e0]; omega
    | ⟨1, _⟩ => show win0_9.index t (1 : Fin 2) * 512 + 1 * q.val = q.val; rw [e1]; omega
  refine Eq.trans (outMC_apply (scAt (F := Ideal) V c t.val t.isLt).2 (bMC V c t) (bMS V c t) r q) ?_
  simp only [mAt_last V c t hm]
  show _ = (fun i : S15360x512.Idx => (argsOf V c).mCode (i 0) (i 1)) (((cfg0.win 9).blk t).view.emb (ix2 r q))
  rw [hi]
  rfl

/-- An index is in a point's block iff each coordinate is in the block's range. -/
theorem mem_blk9 (t : Fin cfg0.N) (i : S15360x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v10_1).slice (win0_9.rect t)).set ↔ _
  rw [View.set_slice_whole, Rect.mem_set_unit]
  exact Iff.rfl

/-- The array after the call. -/
theorem final9 : (dat0 (F := Ideal) V c).arrAt 9 cfg0.N = (fun i : S15360x512.Idx => (argsOf V c).mCode (i 0) (i 1)) :=
  (dat0 (F := Ideal) V c).arrAt_eq_of_cover 9 _ (fun t hf => flushed9 V c t hf) fun (i : S15360x512.Idx) => by
    have hi0 : (i 0).val < 15360 := (i 0).isLt
    have hi1 : (i 1).val < 512 := (i 1).isLt
    have hk : (i 0).val / 1024 < 15 := by omega
    refine ⟨lastOf _ hk, (flush0_9 _).mpr (by show (12 * ((i 0).val / 1024) + 11) % 12 = 11; omega), ?_⟩
    obtain ⟨e0, e1⟩ := index9 (lastOf _ hk)
    have e0' : win0_9.index (lastOf _ hk) (0 : Fin 2) = (i 0).val / 1024 := e0.trans (by show (12 * ((i 0).val / 1024) + 11) / 12 = _; omega)
    refine (mem_blk9 _ i).2 fun a => ?_
    match a with
    | ⟨0, _⟩ => show win0_9.index (lastOf _ hk) (0 : Fin 2) * 1024 ≤ (i 0).val ∧ (i 0).val < win0_9.index (lastOf _ hk) (0 : Fin 2) * 1024 + 1024; omega
    | ⟨1, _⟩ => show win0_9.index (lastOf _ hk) (1 : Fin 2) * 512 ≤ (i 1).val ∧ (i 1).val < win0_9.index (lastOf _ hk) (1 : Fin 2) * 512 + 512; omega

/-! ## Output 2: `mScale` -/

/-- A row's last point writes back its block of `mScale`. -/
theorem flushed10 (t : Fin cfg0.N) (hf : (cfg0.win 10).flush t = true) :
    (dat0 (F := Ideal) V c).flushed 10 t
      = ((cfg0.win 10).blk t).view.read (Elt Ideal) (fun i : S15360x4.Idx => (argsOf V c).mScale (i 0) (i 1)) := by
  show (cfg0.win 10).cut (grid0.coords t) ((dat0 (F := Ideal) V c).after 10 t) = _
  rw [after0_10]
  have hm : t.val % 12 = 11 := (flush0_10 t).mp hf
  obtain ⟨e0, e1⟩ := index10 t
  funext y
  obtain ⟨r, q, rfl⟩ : ∃ (r : Fin 1024) (q : Fin 4), y = ix2 r q := ⟨y 0, y 1, eq_ix2 y⟩
  have hi : ((cfg0.win 10).blk t).view.emb (ix2 r q) = (ix2 (row t.val (lt180 t) r) q : S15360x4.Idx) := by
    funext a; apply Fin.ext
    match a with
    | ⟨0, _⟩ => show win0_10.index t (0 : Fin 2) * 1024 + 1 * r.val = t.val / 12 * 1024 + r.val; rw [e0]; omega
    | ⟨1, _⟩ => show win0_10.index t (1 : Fin 2) * 4 + 1 * q.val = q.val; rw [e1]; omega
  refine Eq.trans (outMS_apply (scAt (F := Ideal) V c t.val t.isLt).2 (bMC V c t) (bMS V c t) r q) ?_
  simp only [mAt_last V c t hm]
  show _ = (fun i : S15360x4.Idx => (argsOf V c).mScale (i 0) (i 1)) (((cfg0.win 10).blk t).view.emb (ix2 r q))
  rw [hi]
  rfl

/-- An index is in a point's block iff each coordinate is in the block's range. -/
theorem mem_blk10 (t : Fin cfg0.N) (i : S15360x4.Idx) :
    i ∈ ((cfg0.win 10).blk t).view.set ↔ ∀ a : Fin 2, win0_10.index t a * S1024x4.size a ≤ (i a).val ∧ (i a).val < win0_10.index t a * S1024x4.size a + S1024x4.size a := by
  show i ∈ ((View.whole main_v10_2).slice (win0_10.rect t)).set ↔ _
  rw [View.set_slice_whole, Rect.mem_set_unit]
  exact Iff.rfl

/-- The array after the call. -/
theorem final10 : (dat0 (F := Ideal) V c).arrAt 10 cfg0.N = (fun i : S15360x4.Idx => (argsOf V c).mScale (i 0) (i 1)) :=
  (dat0 (F := Ideal) V c).arrAt_eq_of_cover 10 _ (fun t hf => flushed10 V c t hf) fun (i : S15360x4.Idx) => by
    have hi0 : (i 0).val < 15360 := (i 0).isLt
    have hi1 : (i 1).val < 4 := (i 1).isLt
    have hk : (i 0).val / 1024 < 15 := by omega
    refine ⟨lastOf _ hk, (flush0_10 _).mpr (by show (12 * ((i 0).val / 1024) + 11) % 12 = 11; omega), ?_⟩
    obtain ⟨e0, e1⟩ := index10 (lastOf _ hk)
    have e0' : win0_10.index (lastOf _ hk) (0 : Fin 2) = (i 0).val / 1024 := e0.trans (by show (12 * ((i 0).val / 1024) + 11) / 12 = _; omega)
    refine (mem_blk10 _ i).2 fun a => ?_
    match a with
    | ⟨0, _⟩ => show win0_10.index (lastOf _ hk) (0 : Fin 2) * 1024 ≤ (i 0).val ∧ (i 0).val < win0_10.index (lastOf _ hk) (0 : Fin 2) * 1024 + 1024; omega
    | ⟨1, _⟩ => show win0_10.index (lastOf _ hk) (1 : Fin 2) * 4 ≤ (i 1).val ∧ (i 1).val < win0_10.index (lastOf _ hk) (1 : Fin 2) * 4 + 4; omega

/-! ## Output 3: `vCode` -/

/-- A row's last point writes back its block of `vCode`. -/
theorem flushed11 (t : Fin cfg0.N) (hf : (cfg0.win 11).flush t = true) :
    (dat0 (F := Ideal) V c).flushed 11 t
      = ((cfg0.win 11).blk t).view.read (Elt Ideal) (fun i : S15360x512.Idx => (argsOf V c).vCode (i 0) (i 1)) := by
  show (cfg0.win 11).cut (grid0.coords t) ((dat0 (F := Ideal) V c).after 11 t) = _
  rw [after0_11]
  have hm : t.val % 12 = 11 := (flush0_11 t).mp hf
  obtain ⟨e0, e1⟩ := index11 t
  funext y
  obtain ⟨r, q, rfl⟩ : ∃ (r : Fin 1024) (q : Fin 512), y = ix2 r q := ⟨y 0, y 1, eq_ix2 y⟩
  have hi : ((cfg0.win 11).blk t).view.emb (ix2 r q) = (ix2 (row t.val (lt180 t) r) q : S15360x512.Idx) := by
    funext a; apply Fin.ext
    match a with
    | ⟨0, _⟩ => show win0_11.index t (0 : Fin 2) * 1024 + 1 * r.val = t.val / 12 * 1024 + r.val; rw [e0]; omega
    | ⟨1, _⟩ => show win0_11.index t (1 : Fin 2) * 512 + 1 * q.val = q.val; rw [e1]; omega
  refine Eq.trans (outVC_apply (scAt (F := Ideal) V c t.val t.isLt).2 (bVC V c t) (bVS V c t) r q) ?_
  simp only [vAt_last V c t hm]
  show _ = (fun i : S15360x512.Idx => (argsOf V c).vCode (i 0) (i 1)) (((cfg0.win 11).blk t).view.emb (ix2 r q))
  rw [hi]
  rfl

/-- An index is in a point's block iff each coordinate is in the block's range. -/
theorem mem_blk11 (t : Fin cfg0.N) (i : S15360x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v10_3).slice (win0_11.rect t)).set ↔ _
  rw [View.set_slice_whole, Rect.mem_set_unit]
  exact Iff.rfl

/-- The array after the call. -/
theorem final11 : (dat0 (F := Ideal) V c).arrAt 11 cfg0.N = (fun i : S15360x512.Idx => (argsOf V c).vCode (i 0) (i 1)) :=
  (dat0 (F := Ideal) V c).arrAt_eq_of_cover 11 _ (fun t hf => flushed11 V c t hf) fun (i : S15360x512.Idx) => by
    have hi0 : (i 0).val < 15360 := (i 0).isLt
    have hi1 : (i 1).val < 512 := (i 1).isLt
    have hk : (i 0).val / 1024 < 15 := by omega
    refine ⟨lastOf _ hk, (flush0_11 _).mpr (by show (12 * ((i 0).val / 1024) + 11) % 12 = 11; omega), ?_⟩
    obtain ⟨e0, e1⟩ := index11 (lastOf _ hk)
    have e0' : win0_11.index (lastOf _ hk) (0 : Fin 2) = (i 0).val / 1024 := e0.trans (by show (12 * ((i 0).val / 1024) + 11) / 12 = _; omega)
    refine (mem_blk11 _ i).2 fun a => ?_
    match a with
    | ⟨0, _⟩ => show win0_11.index (lastOf _ hk) (0 : Fin 2) * 1024 ≤ (i 0).val ∧ (i 0).val < win0_11.index (lastOf _ hk) (0 : Fin 2) * 1024 + 1024; omega
    | ⟨1, _⟩ => show win0_11.index (lastOf _ hk) (1 : Fin 2) * 512 ≤ (i 1).val ∧ (i 1).val < win0_11.index (lastOf _ hk) (1 : Fin 2) * 512 + 512; omega

/-! ## Output 4: `vScale` -/

/-- A row's last point writes back its block of `vScale`. -/
theorem flushed12 (t : Fin cfg0.N) (hf : (cfg0.win 12).flush t = true) :
    (dat0 (F := Ideal) V c).flushed 12 t
      = ((cfg0.win 12).blk t).view.read (Elt Ideal) (fun i : S15360x4.Idx => (argsOf V c).vScale (i 0) (i 1)) := by
  show (cfg0.win 12).cut (grid0.coords t) ((dat0 (F := Ideal) V c).after 12 t) = _
  rw [after0_12]
  have hm : t.val % 12 = 11 := (flush0_12 t).mp hf
  obtain ⟨e0, e1⟩ := index12 t
  funext y
  obtain ⟨r, q, rfl⟩ : ∃ (r : Fin 1024) (q : Fin 4), y = ix2 r q := ⟨y 0, y 1, eq_ix2 y⟩
  have hi : ((cfg0.win 12).blk t).view.emb (ix2 r q) = (ix2 (row t.val (lt180 t) r) q : S15360x4.Idx) := by
    funext a; apply Fin.ext
    match a with
    | ⟨0, _⟩ => show win0_12.index t (0 : Fin 2) * 1024 + 1 * r.val = t.val / 12 * 1024 + r.val; rw [e0]; omega
    | ⟨1, _⟩ => show win0_12.index t (1 : Fin 2) * 4 + 1 * q.val = q.val; rw [e1]; omega
  refine Eq.trans (outVS_apply (scAt (F := Ideal) V c t.val t.isLt).2 (bVC V c t) (bVS V c t) r q) ?_
  simp only [vAt_last V c t hm]
  show _ = (fun i : S15360x4.Idx => (argsOf V c).vScale (i 0) (i 1)) (((cfg0.win 12).blk t).view.emb (ix2 r q))
  rw [hi]
  rfl

/-- An index is in a point's block iff each coordinate is in the block's range. -/
theorem mem_blk12 (t : Fin cfg0.N) (i : S15360x4.Idx) :
    i ∈ ((cfg0.win 12).blk t).view.set ↔ ∀ a : Fin 2, win0_12.index t a * S1024x4.size a ≤ (i a).val ∧ (i a).val < win0_12.index t a * S1024x4.size a + S1024x4.size a := by
  show i ∈ ((View.whole main_v10_4).slice (win0_12.rect t)).set ↔ _
  rw [View.set_slice_whole, Rect.mem_set_unit]
  exact Iff.rfl

/-- The array after the call. -/
theorem final12 : (dat0 (F := Ideal) V c).arrAt 12 cfg0.N = (fun i : S15360x4.Idx => (argsOf V c).vScale (i 0) (i 1)) :=
  (dat0 (F := Ideal) V c).arrAt_eq_of_cover 12 _ (fun t hf => flushed12 V c t hf) fun (i : S15360x4.Idx) => by
    have hi0 : (i 0).val < 15360 := (i 0).isLt
    have hi1 : (i 1).val < 4 := (i 1).isLt
    have hk : (i 0).val / 1024 < 15 := by omega
    refine ⟨lastOf _ hk, (flush0_12 _).mpr (by show (12 * ((i 0).val / 1024) + 11) % 12 = 11; omega), ?_⟩
    obtain ⟨e0, e1⟩ := index12 (lastOf _ hk)
    have e0' : win0_12.index (lastOf _ hk) (0 : Fin 2) = (i 0).val / 1024 := e0.trans (by show (12 * ((i 0).val / 1024) + 11) / 12 = _; omega)
    refine (mem_blk12 _ i).2 fun a => ?_
    match a with
    | ⟨0, _⟩ => show win0_12.index (lastOf _ hk) (0 : Fin 2) * 1024 ≤ (i 0).val ∧ (i 0).val < win0_12.index (lastOf _ hk) (0 : Fin 2) * 1024 + 1024; omega
    | ⟨1, _⟩ => show win0_12.index (lastOf _ hk) (1 : Fin 2) * 4 ≤ (i 1).val ∧ (i 1).val < win0_12.index (lastOf _ hk) (1 : Fin 2) * 4 + 4; omega

end Cert.Proof.GradArrays

end
-- ==== Proof.UpdateArrays.lean ====
/- What the second call leaves in its two arrays. -/
module

public import proofs.«01_k».proof.Proof.KernelOps
public import proofs.«01_k».proof.Proof.Update

@[expose] public section

noncomputable section

namespace Cert.Proof.UpdateArrays

open Cert.Kernel Cert.Kernel.Gen Cert.Proof.Spec Cert.Proof.KernelOps Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- The normalised update, the projection and the weight, as the second call finds them. -/
def nIn (f : Fin 15360) (q : Fin 512) : EReal := (V c main_v10_0 : FVec Ideal S15360x512 .bf16) (ix2 f q)
def pIn (d : Fin 6144) (q : Fin 512) : EReal := (V c main_arg3 : FVec Ideal S6144x512 .bf16) (ix2 d q)
def wIn (f : Fin 15360) (d : Fin 6144) : EReal := (V c main_arg2 : FVec Ideal S15360x6144 .bf16) (ix2 f d)
/-- The weight change and the new weight. -/
def deltaOut (f : Fin 15360) (d : Fin 6144) : EReal := step (∑ q : Fin 512, nIn V c f q * pIn V c d q)
def weightOut (f : Fin 15360) (d : Fin 6144) : EReal := wIn V c f d + deltaOut V c f d

set_option backward.proofsInPublic true in
/-- Row `r` of point `t`'s row block. -/
def row (t : Fin cfg1.N) (r : Fin 1024) : Fin 15360 :=
  ⟨t.val / 12 * 1024 + r.val, by have := r.isLt; have : t.val < 180 := lt_of_lt_of_eq t.isLt N_1; omega⟩
set_option backward.proofsInPublic true in
/-- Column `d` of point `t`'s column block. -/
def column (t : Fin cfg1.N) (d : Fin 512) : Fin 6144 := ⟨t.val % 12 * 512 + d.val, by have := d.isLt; omega⟩

theorem index0 : ∀ t : Fin cfg1.N, win1_0.index t (0 : Fin 2) = t.val / 12 ∧ win1_0.index t (1 : Fin 2) = 0 :=
  (by decide +kernel : ∀ t : Fin grid1.N, _)
theorem index1 : ∀ t : Fin cfg1.N, win1_1.index t (0 : Fin 2) = t.val % 12 ∧ win1_1.index t (1 : Fin 2) = 0 :=
  (by decide +kernel : ∀ t : Fin grid1.N, _)
theorem index2 : ∀ t : Fin cfg1.N, win1_2.index t (0 : Fin 2) = t.val / 12 ∧ win1_2.index t (1 : Fin 2) = t.val % 12 :=
  (by decide +kernel : ∀ t : Fin grid1.N, _)
theorem index3 : ∀ t : Fin cfg1.N, win1_3.index t (0 : Fin 2) = t.val / 12 ∧ win1_3.index t (1 : Fin 2) = t.val % 12 :=
  (by decide +kernel : ∀ t : Fin grid1.N, _)
theorem index4 : ∀ t : Fin cfg1.N, win1_4.index t (0 : Fin 2) = t.val / 12 ∧ win1_4.index t (1 : Fin 2) = t.val % 12 :=
  (by decide +kernel : ∀ t : Fin grid1.N, _)

/-! ## The blocks at a point -/

theorem nBlk_apply (t : Fin cfg1.N) (r : Fin 1024) (q : Fin 512) :
    (iblk1 (F := Ideal) V c 0 t : FVec Ideal S1024x512 .bf16) (ix2 r q) = nIn V c (row t r) q := by
  obtain ⟨e0, e1⟩ := index0 t
  refine congrArg (V c main_v10_0) ?_
  funext a; apply Fin.ext
  match a with
  | ⟨0, _⟩ => show win1_0.index t (0 : Fin 2) * 1024 + 1 * r.val = t.val / 12 * 1024 + r.val; rw [e0]; omega
  | ⟨1, _⟩ => show win1_0.index t (1 : Fin 2) * 512 + 1 * q.val = q.val; rw [e1]; omega

theorem pBlk_apply (t : Fin cfg1.N) (d : Fin 512) (q : Fin 512) :
    (iblk1 (F := Ideal) V c 1 t : FVec Ideal S512x512 .bf16) (ix2 d q) = pIn V c (column t d) q := by
  obtain ⟨e0, e1⟩ := index1 t
  refine congrArg (V c main_arg3) ?_
  funext a; apply Fin.ext
  match a with
  | ⟨0, _⟩ => show win1_1.index t (0 : Fin 2) * 512 + 1 * d.val = t.val % 12 * 512 + d.val; rw [e0]; omega
  | ⟨1, _⟩ => show win1_1.index t (1 : Fin 2) * 512 + 1 * q.val = q.val; rw [e1]; omega

theorem wBlk_apply (t : Fin cfg1.N) (r : Fin 1024) (d : Fin 512) :
    (iblk1 (F := Ideal) V c 2 t : FVec Ideal S1024x512 .bf16) (ix2 r d) = wIn V c (row t r) (column t d) := by
  obtain ⟨e0, e1⟩ := index2 t
  refine congrArg (V c main_arg2) ?_
  funext a; apply Fin.ext
  match a with
  | ⟨0, _⟩ => show win1_2.index t (0 : Fin 2) * 1024 + 1 * r.val = t.val / 12 * 1024 + r.val; rw [e0]; omega
  | ⟨1, _⟩ => show win1_2.index t (1 : Fin 2) * 512 + 1 * d.val = t.val % 12 * 512 + d.val; rw [e1]; omega

theorem zero2 : (![0, 0] : Fin 2 → ℕ) = fun _ => 0 := by
  funext a; match a with | ⟨0, _⟩ => rfl | ⟨1, _⟩ => rfl

theorem out3_apply (x0 : FVec Ideal S1024x512 .bf16) (x1 : FVec Ideal S512x512 .bf16) (x2 : FVec Ideal S1024x512 .bf16) (r : Fin 1024) (d : Fin 512) :
    out1_3 (F := Ideal) x0 x1 x2 (ix2 r d) = (x2 (ix2 r d) + step (∑ q : Fin 512, x0 (ix2 r q) * x1 (ix2 d q)) : EReal) := by
  have e : out1_3 (F := Ideal) x0 x1 x2 = k1_pay2 (F := Ideal) x0 x1 x2 := by
    unfold out1_3
    rw [View.canon_unit_zero zero2, View.ld_unit_zero zero2, View.ld_unit_zero zero2, View.ld_unit_zero zero2]
  rw [e]; exact weight_apply _ _ _ r d

theorem out4_apply (x0 : FVec Ideal S1024x512 .bf16) (x1 : FVec Ideal S512x512 .bf16) (x2 : FVec Ideal S1024x512 .bf16) (r : Fin 1024) (d : Fin 512) :
    out1_4 (F := Ideal) x0 x1 x2 (ix2 r d) = step (∑ q : Fin 512, x0 (ix2 r q) * x1 (ix2 d q)) := by
  have e : out1_4 (F := Ideal) x0 x1 x2 = k1_pay1 (F := Ideal) x0 x1 := by
    unfold out1_4
    rw [View.canon_unit_zero zero2, View.ld_unit_zero zero2, View.ld_unit_zero zero2]
  rw [e]; exact delta_apply _ _ r d

set_option backward.proofsInPublic true in
/-- The point of block `(k, j)`. -/
def pointOf (k j : ℕ) (hk : k < 15) (hj : j < 12) : Fin cfg1.N := ⟨12 * k + j, lt_of_lt_of_eq (by omega) N_1.symm⟩

/-! ## `weightOut` -/

/-- Each point writes back its block of `weightOut`. -/
theorem flushed3 (t : Fin cfg1.N) :
    (dat1 (F := Ideal) V c).flushed 3 t
      = ((cfg1.win 3).blk t).view.read (Elt Ideal) (fun i : S15360x6144.Idx => weightOut V c (i 0) (i 1)) := by
  show (cfg1.win 3).cut (grid1.coords t) ((dat1 (F := Ideal) V c).after 3 t) = _
  rw [after1_3]
  obtain ⟨e0, e1⟩ := index3 t
  funext y
  obtain ⟨r, d, rfl⟩ : ∃ (r : Fin 1024) (d : Fin 512), y = ix2 r d := ⟨y 0, y 1, eq_ix2 y⟩
  have hi : ((cfg1.win 3).blk t).view.emb (ix2 r d) = (ix2 (row t r) (column t d) : S15360x6144.Idx) := by
    funext a; apply Fin.ext
    match a with
    | ⟨0, _⟩ => show win1_3.index t (0 : Fin 2) * 1024 + 1 * r.val = t.val / 12 * 1024 + r.val; rw [e0]; omega
    | ⟨1, _⟩ => show win1_3.index t (1 : Fin 2) * 512 + 1 * d.val = t.val % 12 * 512 + d.val; rw [e1]; omega
  refine Eq.trans (out3_apply (iblk1 (F := Ideal) V c 0 t) (iblk1 (F := Ideal) V c 1 t) (iblk1 (F := Ideal) V c 2 t) r d) ?_
  simp only [nBlk_apply, pBlk_apply, wBlk_apply]
  show _ = (fun i : S15360x6144.Idx => weightOut V c (i 0) (i 1)) (((cfg1.win 3).blk t).view.emb (ix2 r d))
  rw [hi]
  rfl

/-- An index is in a point's block iff each coordinate is in the block's range. -/
theorem mem_blk3 (t : Fin cfg1.N) (i : S15360x6144.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v11_0).slice (win1_3.rect t)).set ↔ _
  rw [View.set_slice_whole, Rect.mem_set_unit]
  exact Iff.rfl

/-- The array after the call. -/
theorem final3 : (dat1 (F := Ideal) V c).arrAt 3 cfg1.N = (fun i : S15360x6144.Idx => weightOut V c (i 0) (i 1)) :=
  (dat1 (F := Ideal) V c).arrAt_eq_of_cover 3 _ (fun t _ => flushed3 V c t) fun (i : S15360x6144.Idx) => by
    have hi0 : (i 0).val < 15360 := (i 0).isLt
    have hi1 : (i 1).val < 6144 := (i 1).isLt
    have hk : (i 0).val / 1024 < 15 := by omega
    have hj : (i 1).val / 512 < 12 := by omega
    refine ⟨pointOf _ _ hk hj, flush1_3 _, ?_⟩
    obtain ⟨e0, e1⟩ := index3 (pointOf _ _ hk hj)
    have e0' : win1_3.index (pointOf _ _ hk hj) (0 : Fin 2) = (i 0).val / 1024 := e0.trans (by show (12 * ((i 0).val / 1024) + (i 1).val / 512) / 12 = _; omega)
    have e1' : win1_3.index (pointOf _ _ hk hj) (1 : Fin 2) = (i 1).val / 512 := e1.trans (by show (12 * ((i 0).val / 1024) + (i 1).val / 512) % 12 = _; omega)
    refine (mem_blk3 _ i).2 fun a => ?_
    match a with
    | ⟨0, _⟩ => show win1_3.index (pointOf _ _ hk hj) (0 : Fin 2) * 1024 ≤ (i 0).val ∧ (i 0).val < win1_3.index (pointOf _ _ hk hj) (0 : Fin 2) * 1024 + 1024; omega
    | ⟨1, _⟩ => show win1_3.index (pointOf _ _ hk hj) (1 : Fin 2) * 512 ≤ (i 1).val ∧ (i 1).val < win1_3.index (pointOf _ _ hk hj) (1 : Fin 2) * 512 + 512; omega

/-! ## `deltaOut` -/

/-- Each point writes back its block of `deltaOut`. -/
theorem flushed4 (t : Fin cfg1.N) :
    (dat1 (F := Ideal) V c).flushed 4 t
      = ((cfg1.win 4).blk t).view.read (Elt Ideal) (fun i : S15360x6144.Idx => deltaOut V c (i 0) (i 1)) := by
  show (cfg1.win 4).cut (grid1.coords t) ((dat1 (F := Ideal) V c).after 4 t) = _
  rw [after1_4]
  obtain ⟨e0, e1⟩ := index4 t
  funext y
  obtain ⟨r, d, rfl⟩ : ∃ (r : Fin 1024) (d : Fin 512), y = ix2 r d := ⟨y 0, y 1, eq_ix2 y⟩
  have hi : ((cfg1.win 4).blk t).view.emb (ix2 r d) = (ix2 (row t r) (column t d) : S15360x6144.Idx) := by
    funext a; apply Fin.ext
    match a with
    | ⟨0, _⟩ => show win1_4.index t (0 : Fin 2) * 1024 + 1 * r.val = t.val / 12 * 1024 + r.val; rw [e0]; omega
    | ⟨1, _⟩ => show win1_4.index t (1 : Fin 2) * 512 + 1 * d.val = t.val % 12 * 512 + d.val; rw [e1]; omega
  refine Eq.trans (out4_apply (iblk1 (F := Ideal) V c 0 t) (iblk1 (F := Ideal) V c 1 t) (iblk1 (F := Ideal) V c 2 t) r d) ?_
  simp only [nBlk_apply, pBlk_apply, wBlk_apply]
  show _ = (fun i : S15360x6144.Idx => deltaOut V c (i 0) (i 1)) (((cfg1.win 4).blk t).view.emb (ix2 r d))
  rw [hi]
  rfl

/-- An index is in a point's block iff each coordinate is in the block's range. -/
theorem mem_blk4 (t : Fin cfg1.N) (i : S15360x6144.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v11_1).slice (win1_4.rect t)).set ↔ _
  rw [View.set_slice_whole, Rect.mem_set_unit]
  exact Iff.rfl

/-- The array after the call. -/
theorem final4 : (dat1 (F := Ideal) V c).arrAt 4 cfg1.N = (fun i : S15360x6144.Idx => deltaOut V c (i 0) (i 1)) :=
  (dat1 (F := Ideal) V c).arrAt_eq_of_cover 4 _ (fun t _ => flushed4 V c t) fun (i : S15360x6144.Idx) => by
    have hi0 : (i 0).val < 15360 := (i 0).isLt
    have hi1 : (i 1).val < 6144 := (i 1).isLt
    have hk : (i 0).val / 1024 < 15 := by omega
    have hj : (i 1).val / 512 < 12 := by omega
    refine ⟨pointOf _ _ hk hj, flush1_4 _, ?_⟩
    obtain ⟨e0, e1⟩ := index4 (pointOf _ _ hk hj)
    have e0' : win1_4.index (pointOf _ _ hk hj) (0 : Fin 2) = (i 0).val / 1024 := e0.trans (by show (12 * ((i 0).val / 1024) + (i 1).val / 512) / 12 = _; omega)
    have e1' : win1_4.index (pointOf _ _ hk hj) (1 : Fin 2) = (i 1).val / 512 := e1.trans (by show (12 * ((i 0).val / 1024) + (i 1).val / 512) % 12 = _; omega)
    refine (mem_blk4 _ i).2 fun a => ?_
    match a with
    | ⟨0, _⟩ => show win1_4.index (pointOf _ _ hk hj) (0 : Fin 2) * 1024 ≤ (i 0).val ∧ (i 0).val < win1_4.index (pointOf _ _ hk hj) (0 : Fin 2) * 1024 + 1024; omega
    | ⟨1, _⟩ => show win1_4.index (pointOf _ _ hk hj) (1 : Fin 2) * 512 ≤ (i 1).val ∧ (i 1).val < win1_4.index (pointOf _ _ hk hj) (1 : Fin 2) * 512 + 512; omega

end Cert.Proof.UpdateArrays

end
-- ==== Proof.KernelValue.lean ====
/- The kernel's six results, as functions of its arguments. -/
module

public import proofs.«01_k».proof.Proof.KernelHost
public import proofs.«01_k».proof.Proof.GradArrays
public import proofs.«01_k».proof.Proof.UpdateArrays

@[expose] public section

noncomputable section

namespace Cert.Proof.KernelValue

open Cert.Kernel Cert.Kernel.Gen Cert.Proof.Spec Cert.Proof.KernelOps Idealize.ShloMosaic Idealize.ShloMosaic.TcCoe
open Idealize.ShloMosaic.Pipeline (Dat)

open Cert.Proof.GradSum Cert.Proof.GradArrays Cert.Proof.UpdateArrays Cert.Proof.KernelHost Idealize.SL.Sem

variable (m : (ℓ : Loc nD τ sig) → Buf (Elt Ideal) ℓ) (ρ : Dev nD → PrngReg) (c : Dev nD)

/-- A device's arguments. -/
abbrev args : Args := argsAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The first call finds the arguments. -/
theorem args_eq : argsOf (V1 (F := Ideal) m ρ) c = args m c := by
  have hx : (argsOf (V1 (F := Ideal) m ρ) c).x = (args m c).x := by
    funext s d
    exact (congrFun (v0_eq (W0 (F := Ideal) m ρ c)) _).trans (reshape_x _ s d)
  have hdy : (argsOf (V1 (F := Ideal) m ρ) c).dy = (args m c).dy := by
    funext s d
    exact (congrFun (v1_eq (W0 (F := Ideal) m ρ c)) _).trans (reshape_dy _ s d)
  have hb1 : (argsOf (V1 (F := Ideal) m ρ) c).b1 = (args m c).b1 :=
    ((congrFun (v9_eq (W0 (F := Ideal) m ρ c)) _).trans (pair_0 _ _)).trans (biasVec_apply _ _ _)
  have hb2 : (argsOf (V1 (F := Ideal) m ρ) c).b2 = (args m c).b2 :=
    ((congrFun (v9_eq (W0 (F := Ideal) m ρ c)) _).trans (pair_1 _ _)).trans (biasVec_apply _ _ _)
  have hw : (argsOf (V1 (F := Ideal) m ρ) c).w = (args m c).w := by
    funext s d
    exact congrFun (W1_args (F := Ideal) m ρ c main_arg2 (by decide)) _
  have hp : (argsOf (V1 (F := Ideal) m ρ) c).p = (args m c).p := by
    funext s d
    exact congrFun (W1_args (F := Ideal) m ρ c main_arg3 (by decide)) _
  have hmc : (argsOf (V1 (F := Ideal) m ρ) c).mc = (args m c).mc := by
    funext s d
    exact congrFun (W1_args (F := Ideal) m ρ c main_arg5 (by decide)) _
  have hms : (argsOf (V1 (F := Ideal) m ρ) c).ms = (args m c).ms := by
    funext s d
    exact congrFun (W1_args (F := Ideal) m ρ c main_arg6 (by decide)) _
  have hvc : (argsOf (V1 (F := Ideal) m ρ) c).vc = (args m c).vc := by
    funext s d
    exact congrFun (W1_args (F := Ideal) m ρ c main_arg7 (by decide)) _
  have hvs : (argsOf (V1 (F := Ideal) m ρ) c).vs = (args m c).vs := by
    funext s d
    exact congrFun (W1_args (F := Ideal) m ρ c main_arg8 (by decide)) _
  exact args_ext hx hdy hw hp hb1 hb2 hmc hms hvc hvs

/-! ## The six results -/

/-- The normalised update is what the first call leaves for the second. -/
theorem nIn_eq (f : Fin 15360) (q : Fin 512) : nIn (V2 (F := Ideal) m ρ) c f q = (args m c).n f q := by
  have e := (W2_arr (F := Ideal) m ρ c 8).trans (final8 (V1 (F := Ideal) m ρ) c)
  rw [args_eq] at e
  exact congrFun e (ix2 f q)
theorem pIn_eq (d : Fin 6144) (q : Fin 512) : pIn (V2 (F := Ideal) m ρ) c d q = (args m c).p d q :=
  congrFun (W2_args (F := Ideal) m ρ c main_arg3 (by decide)) _
theorem wIn_eq (f : Fin 15360) (d : Fin 6144) : wIn (V2 (F := Ideal) m ρ) c f d = (args m c).w f d :=
  congrFun (W2_args (F := Ideal) m ρ c main_arg2 (by decide)) _

theorem delta_eq (f : Fin 15360) (d : Fin 6144) : deltaOut (V2 (F := Ideal) m ρ) c f d = (args m c).delta f d := by
  unfold deltaOut Args.delta
  simp only [nIn_eq, pIn_eq]
theorem weight_eq (f : Fin 15360) (d : Fin 6144) : weightOut (V2 (F := Ideal) m ρ) c f d = (args m c).weight f d := by
  unfold weightOut Args.weight
  rw [wIn_eq, delta_eq]

theorem result0 : W3 (F := Ideal) m ρ c (Proc.devRef .tc main_v11_0) = fun i : S15360x6144.Idx => (args m c).weight (i 0) (i 1) :=
  ((W3_arr (F := Ideal) m ρ c 3).trans (final3 (V2 (F := Ideal) m ρ) c)).trans (funext fun i => weight_eq m ρ c _ _)
theorem result1 : W3 (F := Ideal) m ρ c (Proc.devRef .tc main_v11_1) = fun i : S15360x6144.Idx => (args m c).delta (i 0) (i 1) :=
  ((W3_arr (F := Ideal) m ρ c 4).trans (final4 (V2 (F := Ideal) m ρ) c)).trans (funext fun i => delta_eq m ρ c _ _)
theorem result2 : W3 (F := Ideal) m ρ c (Proc.devRef .tc main_v10_1) = fun i : S15360x512.Idx => (args m c).mCode (i 0) (i 1) := by
  have e := (W2_arr (F := Ideal) m ρ c 9).trans (final9 (V1 (F := Ideal) m ρ) c)
  rw [args_eq] at e
  exact (W3_of (F := Ideal) m ρ c main_v10_1 (by decide +kernel)).trans e
theorem result3 : W3 (F := Ideal) m ρ c (Proc.devRef .tc main_v10_2) = fun i : S15360x4.Idx => (args m c).mScale (i 0) (i 1) := by
  have e := (W2_arr (F := Ideal) m ρ c 10).trans (final10 (V1 (F := Ideal) m ρ) c)
  rw [args_eq] at e
  exact (W3_of (F := Ideal) m ρ c main_v10_2 (by decide +kernel)).trans e
theorem result4 : W3 (F := Ideal) m ρ c (Proc.devRef .tc main_v10_3) = fun i : S15360x512.Idx => (args m c).vCode (i 0) (i 1) := by
  have e := (W2_arr (F := Ideal) m ρ c 11).trans (final11 (V1 (F := Ideal) m ρ) c)
  rw [args_eq] at e
  exact (W3_of (F := Ideal) m ρ c main_v10_3 (by decide +kernel)).trans e
theorem result5 : W3 (F := Ideal) m ρ c (Proc.devRef .tc main_v10_4) = fun i : S15360x4.Idx => (args m c).vScale (i 0) (i 1) := by
  have e := (W2_arr (F := Ideal) m ρ c 12).trans (final12 (V1 (F := Ideal) m ρ) c)
  rw [args_eq] at e
  exact (W3_of (F := Ideal) m ρ c main_v10_4 (by decide +kernel)).trans e

/-- The kernel's run at the ideal floats: its six results are the six functions of its arguments, which it leaves. -/
theorem run : ∀ (m : (ℓ : Loc Cert.Kernel.nD Cert.Kernel.τ Cert.Kernel.sig) → Buf (Elt Ideal) ℓ) (g : Dev Cert.Kernel.nD → PrngReg),
      θ_run (Cert.Kernel.defs (F := Ideal)) (onTc (τ := Cert.Kernel.τ) (Cert.Kernel.main (F := Ideal))) ⟨m, fun _ => 0, g⟩ (fun r => ∀ c : Dev Cert.Kernel.nD,
          r.2.mem ((c.tc : Thread Cert.Kernel.nD Cert.Kernel.τ).loc Cert.Kernel.main_v11_0) = (fun i : Cert.Kernel.S15360x6144.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).weight (i 0) (i 1))
          ∧ r.2.mem ((c.tc : Thread Cert.Kernel.nD Cert.Kernel.τ).loc Cert.Kernel.main_v11_1) = (fun i : Cert.Kernel.S15360x6144.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).delta (i 0) (i 1))
          ∧ r.2.mem ((c.tc : Thread Cert.Kernel.nD Cert.Kernel.τ).loc Cert.Kernel.main_v10_1) = (fun i : Cert.Kernel.S15360x512.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).mCode (i 0) (i 1))
          ∧ r.2.mem ((c.tc : Thread Cert.Kernel.nD Cert.Kernel.τ).loc Cert.Kernel.main_v10_2) = (fun i : Cert.Kernel.S15360x4.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).mScale (i 0) (i 1))
          ∧ r.2.mem ((c.tc : Thread Cert.Kernel.nD Cert.Kernel.τ).loc Cert.Kernel.main_v10_3) = (fun i : Cert.Kernel.S15360x512.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).vCode (i 0) (i 1))
          ∧ r.2.mem ((c.tc : Thread Cert.Kernel.nD Cert.Kernel.τ).loc Cert.Kernel.main_v10_4) = (fun i : Cert.Kernel.S15360x4.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).vScale (i 0) (i 1))
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)) := fun m g =>
  (θ_run _ _ _).mono (fun r hr c => ⟨(hr.1 c _ (mem_uc main_v11_0 (by decide))).trans (result0 m g c),
    (hr.1 c _ (mem_uc main_v11_1 (by decide))).trans (result1 m g c),
    (hr.1 c _ (mem_uc main_v10_1 (by decide))).trans (result2 m g c),
    (hr.1 c _ (mem_uc main_v10_2 (by decide))).trans (result3 m g c),
    (hr.1 c _ (mem_uc main_v10_3 (by decide))).trans (result4 m g c),
    (hr.1 c _ (mem_uc main_v10_4 (by decide))).trans (result5 m g c),
    (hr.1 c _ (mem_uc main_arg0 (by decide))).trans (W3_main_arg0 m g c),
    (hr.1 c _ (mem_uc main_arg1 (by decide))).trans (W3_main_arg1 m g c),
    (hr.1 c _ (mem_uc main_arg2 (by decide))).trans (W3_main_arg2 m g c),
    (hr.1 c _ (mem_uc main_arg3 (by decide))).trans (W3_main_arg3 m g c),
    (hr.1 c _ (mem_uc main_arg4 (by decide))).trans (W3_main_arg4 m g c),
    (hr.1 c _ (mem_uc main_arg5 (by decide))).trans (W3_main_arg5 m g c),
    (hr.1 c _ (mem_uc main_arg6 (by decide))).trans (W3_main_arg6 m g c),
    (hr.1 c _ (mem_uc main_arg7 (by decide))).trans (W3_main_arg7 m g c),
    (hr.1 c _ (mem_uc main_arg8 (by decide))).trans (W3_main_arg8 m g c)⟩) (run_main m g)

end Cert.Proof.KernelValue

end
-- ==== Proof.IdealValue.lean ====
/- The idealized kernel is the kernel's own text, so its results are the same functions of its arguments. -/
module

public import proofs.«01_k».proof.Proof.KernelValue
public import proofs.«01_k».proof.Proof.Gen.KernelIdeal
public import proofs.«01_k».proof.KernelIdeal
public import Idealize.ShloMosaic.Lib.Tactic
import all proofs.«01_k».proof.Kernel
import all proofs.«01_k».proof.KernelIdeal

@[expose] public section

set_option maxRecDepth 100000

noncomputable section

namespace Cert.Proof.IdealValue

open Cert.Proof.Spec Idealize.ShloMosaic

open Idealize.SL.Sem Idealize.ShloMosaic.Tactic

/-- The value statement of the two programs is one statement. -/
theorem value_transport [i : Cert.Kernel.Facts] [j : Cert.KernelIdeal.Facts] :
    (∀ (m : (ℓ : Loc Cert.Kernel.nD Cert.Kernel.τ Cert.Kernel.sig) → Buf (Elt Ideal) ℓ) (g : Dev Cert.Kernel.nD → PrngReg),
      θ_run (Cert.Kernel.defs (F := Ideal)) (onTc (τ := Cert.Kernel.τ) (Cert.Kernel.main (F := Ideal))) ⟨m, fun _ => 0, g⟩ (fun r => ∀ c : Dev Cert.Kernel.nD,
          r.2.mem ((c.tc : Thread Cert.Kernel.nD Cert.Kernel.τ).loc Cert.Kernel.main_v11_0) = (fun i : Cert.Kernel.S15360x6144.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).weight (i 0) (i 1))
          ∧ r.2.mem ((c.tc : Thread Cert.Kernel.nD Cert.Kernel.τ).loc Cert.Kernel.main_v11_1) = (fun i : Cert.Kernel.S15360x6144.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).delta (i 0) (i 1))
          ∧ r.2.mem ((c.tc : Thread Cert.Kernel.nD Cert.Kernel.τ).loc Cert.Kernel.main_v10_1) = (fun i : Cert.Kernel.S15360x512.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).mCode (i 0) (i 1))
          ∧ r.2.mem ((c.tc : Thread Cert.Kernel.nD Cert.Kernel.τ).loc Cert.Kernel.main_v10_2) = (fun i : Cert.Kernel.S15360x4.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).mScale (i 0) (i 1))
          ∧ r.2.mem ((c.tc : Thread Cert.Kernel.nD Cert.Kernel.τ).loc Cert.Kernel.main_v10_3) = (fun i : Cert.Kernel.S15360x512.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).vCode (i 0) (i 1))
          ∧ r.2.mem ((c.tc : Thread Cert.Kernel.nD Cert.Kernel.τ).loc Cert.Kernel.main_v10_4) = (fun i : Cert.Kernel.S15360x4.Idx => (KernelHost.argsAt (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).vScale (i 0) (i 1))
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)))
    = (∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = (fun i : Cert.KernelIdeal.S15360x6144.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).weight (i 0) (i 1))
          ∧ r.2.mem ((c.tc : Thread Cert.KernelIdeal.nD Cert.KernelIdeal.τ).loc Cert.KernelIdeal.main_v11_1) = (fun i : Cert.KernelIdeal.S15360x6144.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).delta (i 0) (i 1))
          ∧ r.2.mem ((c.tc : Thread Cert.KernelIdeal.nD Cert.KernelIdeal.τ).loc Cert.KernelIdeal.main_v10_1) = (fun i : Cert.KernelIdeal.S15360x512.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).mCode (i 0) (i 1))
          ∧ r.2.mem ((c.tc : Thread Cert.KernelIdeal.nD Cert.KernelIdeal.τ).loc Cert.KernelIdeal.main_v10_2) = (fun i : Cert.KernelIdeal.S15360x4.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).mScale (i 0) (i 1))
          ∧ r.2.mem ((c.tc : Thread Cert.KernelIdeal.nD Cert.KernelIdeal.τ).loc Cert.KernelIdeal.main_v10_3) = (fun i : Cert.KernelIdeal.S15360x512.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).vCode (i 0) (i 1))
          ∧ r.2.mem ((c.tc : Thread Cert.KernelIdeal.nD Cert.KernelIdeal.τ).loc Cert.KernelIdeal.main_v10_4) = (fun i : Cert.KernelIdeal.S15360x4.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).vScale (i 0) (i 1))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))) := by
  sl_kernel_rfl

/-- The idealized kernel's run: its six results are the six functions of its arguments, which it leaves. -/
theorem run : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = (fun i : Cert.KernelIdeal.S15360x6144.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).weight (i 0) (i 1))
          ∧ r.2.mem ((c.tc : Thread Cert.KernelIdeal.nD Cert.KernelIdeal.τ).loc Cert.KernelIdeal.main_v11_1) = (fun i : Cert.KernelIdeal.S15360x6144.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).delta (i 0) (i 1))
          ∧ r.2.mem ((c.tc : Thread Cert.KernelIdeal.nD Cert.KernelIdeal.τ).loc Cert.KernelIdeal.main_v10_1) = (fun i : Cert.KernelIdeal.S15360x512.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).mCode (i 0) (i 1))
          ∧ r.2.mem ((c.tc : Thread Cert.KernelIdeal.nD Cert.KernelIdeal.τ).loc Cert.KernelIdeal.main_v10_2) = (fun i : Cert.KernelIdeal.S15360x4.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).mScale (i 0) (i 1))
          ∧ r.2.mem ((c.tc : Thread Cert.KernelIdeal.nD Cert.KernelIdeal.τ).loc Cert.KernelIdeal.main_v10_3) = (fun i : Cert.KernelIdeal.S15360x512.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).vCode (i 0) (i 1))
          ∧ r.2.mem ((c.tc : Thread Cert.KernelIdeal.nD Cert.KernelIdeal.τ).loc Cert.KernelIdeal.main_v10_4) = (fun i : Cert.KernelIdeal.S15360x4.Idx => (KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).vScale (i 0) (i 1))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  Eq.mp value_transport KernelValue.run

end Cert.Proof.IdealValue

end
-- ==== Proof.Algebra.lean ====
/- The value claim: at the extended reals the kernel and the reference compute the same six results. -/
module

public import proofs.«01_k».proof.Proof.ReferenceValue
public import proofs.«01_k».proof.Proof.IdealValue
public import proofs.«01_k».proof.Defs

@[expose] public section

noncomputable section

namespace Cert.Proof.Algebra

open Cert Cert.Proof.Spec Idealize.ShloMosaic Idealize.ShloMosaic.TcCoe
open Idealize.SL.Sem
open Idealize.SL.Sem

/-- The arguments of the idealized kernel at their coordinates. -/
abbrev kargs (m : (ℓ : Loc Cert.KernelIdeal.nD Cert.KernelIdeal.τ Cert.KernelIdeal.sig) → Buf (Elt Ideal) ℓ) (c : Dev Cert.KernelIdeal.nD) : Args :=
  KernelHost.argsAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- From equal arguments the idealized kernel and the reference end with equal results. -/
theorem algebraic : algebraic_KernelIdeal_ReferenceIdeal (hKernelIdeal := Cert.KernelIdeal.Gen.facts) (hReferenceIdeal := Cert.ReferenceIdeal.Gen.facts) := by
  intro m g m' g' _ hargs
  have hk : ∀ c, ReferenceValue.args m' c = kargs m c := fun c => by
    obtain ⟨e0, e1, e2, e3, e4, e5, e6, e7, e8⟩ := hargs c
    unfold ReferenceValue.args kargs
    rw [e0, e1, e2, e3, e4, e5, e6, e7, e8]
  refine ⟨fun c => fun i : Cert.KernelIdeal.S15360x6144.Idx => (kargs m c).weight (i 0) (i 1), fun c => fun i : Cert.KernelIdeal.S15360x6144.Idx => (kargs m c).delta (i 0) (i 1), fun c => fun i : Cert.KernelIdeal.S15360x512.Idx => (kargs m c).mCode (i 0) (i 1), fun c => fun i : Cert.KernelIdeal.S15360x4.Idx => (kargs m c).mScale (i 0) (i 1), fun c => fun i : Cert.KernelIdeal.S15360x512.Idx => (kargs m c).vCode (i 0) (i 1), fun c => fun i : Cert.KernelIdeal.S15360x4.Idx => (kargs m c).vScale (i 0) (i 1),
    IdealValue.run m g, ?_⟩
  refine (θ_run Cert.ReferenceIdeal.defs _ _).mono (fun r h c => ?_) (ReferenceValue.run m' g')
  have e := hk c
  obtain ⟨h0, h1, h2, h3, h4, h5, ha⟩ := h c
  refine ⟨h0.trans ?_, h1.trans ?_, h2.trans ?_, h3.trans ?_, h4.trans ?_, h5.trans ?_, ha⟩ <;> rw [e]

end Cert.Proof.Algebra

end
-- ==== Proof.Transport.lean ====
/- The idealized kernel is the kernel's own text, so what is proved of one at the ideal floats holds of the other. -/
module

public import proofs.«01_k».proof.Kernel
public import proofs.«01_k».proof.KernelIdeal
public import Idealize.ShloMosaic.Lib.Tactic
public import Idealize.ShloMosaic.PureOps.Ideal
import all proofs.«01_k».proof.Kernel
import all proofs.«01_k».proof.KernelIdeal

@[expose] public section

set_option maxRecDepth 100000

noncomputable section

namespace Cert.Proof

open Idealize.ShloMosaic Idealize.SL.Sem Idealize.ShloMosaic.Tactic

/-- The frame statement of the two programs is one statement. -/
theorem frame_transport [i : Cert.Kernel.Facts] [j : Cert.KernelIdeal.Facts] :
    (∀ (m : (ℓ : Loc Cert.Kernel.nD Cert.Kernel.τ Cert.Kernel.sig) → Buf (Elt Ideal) ℓ) (g : Dev Cert.Kernel.nD → PrngReg), True →
    θ_run (Cert.Kernel.defs (F := Ideal)) (onTc (τ := Cert.Kernel.τ) (Cert.Kernel.main (F := Ideal))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0))
    = (∀ (m : (ℓ : Loc Cert.KernelIdeal.nD Cert.KernelIdeal.τ Cert.KernelIdeal.sig) → Buf (Elt Ideal) ℓ) (g : Dev Cert.KernelIdeal.nD → PrngReg), True →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)) := by
  sl_kernel_rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Whole
public import proofs.«01_k».proof.Proof.Algebra
public import proofs.«01_k».proof.Proof.Transport

@[expose] public section

noncomputable section

namespace Cert.Proof

open Idealize.ShloMosaic Idealize.SL.Sem

/-- The kernel's frame, at the printed floats and at the ideal ones. -/
theorem frame_Kernel : quiescent_Kernel (hKernel := Cert.Kernel.Gen.facts) := fun m ρ _ => Cert.Kernel.Gen.frame m ρ

theorem frame_KernelIdeal : quiescent_KernelIdeal (hKernelIdeal := Cert.KernelIdeal.Gen.facts) :=
  Eq.mp (frame_transport (i := Cert.Kernel.Gen.facts) (j := Cert.KernelIdeal.Gen.facts)) (fun m ρ _ => Cert.Kernel.Gen.frame m ρ)

theorem claim : Cert.Claim := ⟨Cert.Kernel.Gen.facts, Cert.KernelIdeal.Gen.facts, Cert.ReferenceIdeal.Gen.facts,
  frame_Kernel, frame_KernelIdeal, fun m ρ _ => Cert.ReferenceIdeal.Gen.frame m ρ, trivial, Algebra.algebraic⟩

end Cert.Proof

end
